-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S4x1x1024 : Shape := ⟨3, ![4, 1, 1024]⟩
abbrev S3 : Shape := ⟨1, ![3]⟩
abbrev S4 : Shape := ⟨1, ![4]⟩
abbrev S_ : Shape := ⟨0, ![]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1 : Shape := ⟨1, ![1]⟩
abbrev S1x1x1024 : Shape := ⟨3, ![1, 1, 1024]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S4x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let c0_i32_35 : BitVec 32 := 0#32
  ![v2.toNat, 0, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32 : BitVec 32 := 1#32
  let v81 : BitVec 32 := Scalar.muli v13 c1_i32_32
  let v82 : BitVec 32 := Scalar.addi c0_i32_33 v81
  v82.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_37 : BitVec 32 := 1#32
  let v89 : BitVec 32 := Scalar.muli v24 c1_i32_37
  let v90 : BitVec 32 := Scalar.addi c0_i32_38 v89
  v90.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_42 : BitVec 32 := 1#32
  let v97 : BitVec 32 := Scalar.muli v35 c1_i32_42
  let v98 : BitVec 32 := Scalar.addi c0_i32_43 v97
  v98.toNat
def k0_off3 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off4 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_77 : BitVec 32 := 0#32
  let c0_i32_78 : BitVec 32 := 0#32
  ![v13.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S8192x1024, .f32⟩
  | .hbm, ⟨5, _⟩ => ⟨S_, .i32⟩
  | .hbm, ⟨6, _⟩ => ⟨S8192x1024, .f32⟩
  | .hbm, ⟨7, _⟩ => ⟨S_, .i32⟩
  | .hbm, ⟨8, _⟩ => ⟨S1024, .f32⟩
  | .hbm, ⟨9, _⟩ => ⟨S8192x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S8192x1024, .f32⟩
  | .hbm, ⟨19, _⟩ => ⟨S_, .i32⟩
  | .hbm, ⟨20, _⟩ => ⟨S_, .i32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 8192#32, 1#32⟩
-- ==== Proof.Protocol.lean ====
/-
The exchange between the four devices: its cells, its schedule, what each device owes.

Every device multiplies down its own block of rows and sends the resulting row of column products ("total") to the
three others. Device `c` keeps four slots, one per device; the total of device `d` lands in slot `d`. Before a device
sends, it hears from each other device, by one unit on its barrier semaphore, that this device's slot for it is free.

 * The barrier cell of `c` has three duties of one unit, one per other device. The device paying it hands over the
   slot kept for `c`.
 * The receive cell of `c` for slot `d ≠ c` has one duty, paid by the transfer from `d`; it hands over slot `d` of
   `c` filled with the total of `d`. The receive cell for the device's own slot is never used.
 * The send cell `k` of `c` has one duty, paid when the `k`-th transfer has read its source; it hands back the share
   of the source row lent to that transfer.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The ghost state: the pipeline library's, and the exchange's rounds with duties named `0, 1, 2`. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-! ## The ring of devices -/

set_option backward.proofsInPublic true in
/-- The device `k + 1` places further round the ring of four. -/
def up (k : Fin 3) (c : Dev nD) : Dev nD := ⟨(c.val + (k.val + 1)) % 4, Nat.mod_lt _ (by decide)⟩

/-- Going on by `k + 1` places and then by the rest of the round comes back. -/
theorem up_rev_up (k : Fin 3) (c : Dev nD) : up k.rev (up k c) = c := by revert k c; decide
theorem up_up_rev (k : Fin 3) (c : Dev nD) : up k (up k.rev c) = c := by revert k c; decide
theorem up_ne (k : Fin 3) (c : Dev nD) : up k c ≠ c := by revert k c; decide

/-- The three other devices and the device itself are all four. -/
theorem all_devs (c : Dev nD) : (Finset.univ : Finset (Dev nD)).val = {c, up 0 c, up 1 c, up 2 c} := by revert c; decide

theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = up 0 c := by revert c; decide +kernel
theorem dev5_eq (c : Dev nD) : (⟨k0_dev5 c, k0_dev5_lt c⟩ : Dev nD) = up 1 c := by revert c; decide +kernel
theorem dev6_eq (c : Dev nD) : (⟨k0_dev6 c, k0_dev6_lt c⟩ : Dev nD) = up 2 c := by revert c; decide +kernel

/-! ## Buffers, semaphores, cells -/

abbrev xM : Memref sig .tc .vmem S2048x1024 .f32 := Memref.whole cc0_stg0_0
abbrev oM : Memref sig .tc .vmem S2048x1024 .f32 := Memref.whole cc0_stg1_0
/-- The row of column products of the device's own block, the source of its transfers. -/
abbrev tM : Memref sig .tc .vmem S1x1024 .f32 := Memref.whole cc0_scratch0
/-- The four slots. -/
abbrev gM : Memref sig .tc .vmem S4x1x1024 .f32 := Memref.whole cc0_scratch1

/-- Slot at a given offset, as a row. -/
abbrev slotAt (off : Fin 3 → ℕ) (inb : ∀ a, off a + S1x1x1024.size a ≤ S4x1x1024.size a) : Memref sig .tc .vmem S1x1024 .f32 :=
  (gM.slice (Rect.unit (s := S4x1x1024) off S1x1x1024.size inb) (fun _ => rfl)).squeeze S1x1024 squeezes_S1x1x1024_S1x1024
/-- The slot of device `d`. -/
abbrev slotM (d : Dev nD) : Memref sig .tc .vmem S1x1024 .f32 := slotAt (k0_off2 d) (k0_off2_inb d)

/-- The runtime's barrier semaphore. -/
abbrev barS : Sem sig := (SemArray.scalar (sig.barrier 0 rfl) : Sems sig S_).sem
/-- The receive semaphore at a given offset. -/
abbrev recvAt (off : Fin 1 → ℕ) (inb : ∀ a, off a + S1.size a ≤ S4.size a) : DmaSem sig :=
  ((cc0_scratch3.slice (Rect.unit (s := S4) off S1.size inb)).squeeze S_ squeezes_S1_S_).sem
/-- The receive semaphore of slot `d`. -/
abbrev recvS (d : Dev nD) : DmaSem sig := recvAt (k0_off1 d) (k0_off1_inb d)
/-- The three send semaphores. -/
abbrev sendS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

/-- The part a semaphore plays: the barrier, a send semaphore, the receive semaphore of a slot. -/
abbrev Role : Type := Unit ⊕ Fin 3 ⊕ Dev nD

abbrev semOf : Role → SemLoc sig
  | .inl _ => .reg barS
  | .inr (.inl k) => .dma (sendS k)
  | .inr (.inr d) => .dma (recvS d)

set_option backward.proofsInPublic true in
/-- The part of a semaphore, read off its number: numbers 0 and 1 belong to the staging buffers. -/
def roleOf : SemLoc sig → Option Role
  | .reg _ => some (.inl ())
  | .dma q => if h : q.val < 2 then none else if h' : q.val < 5 then some (.inr (.inl ⟨q.val - 2, by omega⟩))
      else some (.inr (.inr ⟨q.val - 5, by have h9 : q.val < 9 := q.isLt; show q.val - 5 < 4; omega⟩))

theorem roleOf_semOf (x : Role) : roleOf (semOf x) = some x := by
  revert x; decide +kernel

theorem semOf_inj : Function.Injective semOf := fun x y h => by
  have := (roleOf_semOf x).symm.trans ((congrArg roleOf h).trans (roleOf_semOf y))
  exact Option.some.inj this

abbrev cell (p : Dev nD × Role) : GSem nD τ sig := ((p.1 : Thread nD τ), semOf p.2)
abbrev barCell (c : Dev nD) : GSem nD τ sig := cell (c, .inl ())
abbrev sendCell (c : Dev nD) (k : Fin 3) : GSem nD τ sig := cell (c, .inr (.inl k))
abbrev recvCell (c d : Dev nD) : GSem nD τ sig := cell (c, .inr (.inr d))

theorem cell_inj : Function.Injective cell := by
  rintro ⟨c, x⟩ ⟨c', x'⟩ h
  have h1 : c = c' := congrArg (fun g : GSem nD τ sig => g.1.1) h
  have h2 : x = x' := semOf_inj (congrArg Prod.snd h)
  rw [h1, h2]

/-- The receive semaphores the waits name. -/
theorem recv_wait (c : Dev nD) (off : Fin 1 → ℕ) (inb) (d : Dev nD) (h : off = k0_off1 d) : recvAt off inb = recvS d := by
  subst h; rfl
theorem off3_eq (k : Fin 3) (c : Dev nD) : k0_off3 c (BitVec.ofNat 32 (1 + k.val)) = k0_off1 (up k c) := by
  revert k c; decide +kernel

/-- What one transfer counts on its semaphores. -/
abbrev N : ℕ := tM.view.dmaCredit
theorem N_pos : 0 < N := View.dmaCredit_pos _ (by decide)
theorem slot_credit (off : Fin 3 → ℕ) (inb) : (slotAt off inb).view.dmaCredit = N := rfl

/-! ## The slots as parts of one buffer -/

/-- The elements of slot `d`. -/
def slotSet (d : Dev nD) : Finset (cc0_scratch1 : Ref sig .tc).ty.Idx :=
  Finset.univ.filter fun i => (i 0).val = d.val

theorem slotM_set (d : Dev nD) : (slotM d).view.set = slotSet d := by
  refine (View.set_reshape _ _).trans ((View.set_slice_whole _ _).trans ?_)
  ext i
  rw [Rect.mem_set_unit, slotSet, Finset.mem_filter, k0_off2_eq]
  have h1 := (i 1).isLt; have h2 := (i 2).isLt
  change (i 1).val < 1 at h1
  change (i 2).val < 1024 at h2
  constructor
  · intro h
    refine ⟨Finset.mem_univ _, ?_⟩
    have h0 := h 0
    change d.val ≤ (i 0).val ∧ (i 0).val < d.val + 1 at h0
    omega
  · rintro ⟨-, h⟩ a
    fin_cases a
    · change d.val ≤ (i 0).val ∧ (i 0).val < d.val + 1
      omega
    · exact ⟨Nat.zero_le _, by change (i 1).val < 0 + 1; omega⟩
    · exact ⟨Nat.zero_le _, by change (i 2).val < 0 + 1024; omega⟩

/-! ## What the kernel computes, by the printed payloads -/

/-- The device's place on the ring as the kernel's word for it. -/
abbrev word (c : Dev nD) : BitVec 32 := Scalar.remsi (Scalar.divsi (Dev.word c) 1#32) 4#32
/-- The row indices. -/
abbrev rows : IVec S2048x1 32 := iota .tc S2048x1 32 [0] iota_S2048x1_d0_w32
/-- The column products of a block, as one row. -/
def colProd (x : FVec F S2048x1024 .f32) : FVec F S1x1024 .f32 := k0_pay2 (k0_pay1 x)
/-- The running products down a block. -/
def localScan (x : FVec F S2048x1024 .f32) : FVec F S2048x1024 .f32 :=
  k0_pay8 rows (k0_pay6 rows (k0_pay3 x) (k0_pay4 x) (Scalar.ofBits .f32 0x3F800000#32) k0_pay5)
    (k0_pay7 rows (k0_pay3 x) (k0_pay4 x) (Scalar.ofBits .f32 0x3F800000#32) k0_pay5)
/-- The running products scaled by the totals of the devices before, read off the four slots. -/
def scaled (c : Dev nD) (x : FVec F S2048x1024 .f32) (s : Fin 4 → Vec F S1x1x1024 .f32) : FVec F S2048x1024 .f32 :=
  k0_pay10 (word c) (k0_pay9 (word c) (s 0) (s 1)) (s 2) (s 3) x

/-- The kernel's test for "slot `k` belongs to a device before `c`" fails when it does not. -/
theorem not_before : ∀ (c : Dev nD) (k : Fin 4), ¬ k.val < c.val → Scalar.cmpi .sgt (word c) (BitVec.ofNat 32 k.val) = 0#1 := by
  decide +kernel
/-- and holds when it does. -/
theorem is_before : ∀ (c : Dev nD) (k : Fin 4), k.val < c.val → Scalar.cmpi .sgt (word c) (BitVec.ofNat 32 k.val) = 1#1 := by
  decide +kernel

/-- Only the slots of the devices before `c` matter. -/
theorem scaled_congr (c : Dev nD) (x : FVec F S2048x1024 .f32) (s s' : Fin 4 → Vec F S1x1x1024 .f32)
    (h : ∀ k : Fin 4, k.val < c.val → s k = s' k) : scaled c x s = scaled c x s' := by
  have hw (k : Fin 4) (a a' b : FVec F S1x1024 .f32) (h : k.val < c.val → a = a') :
      Scalar.select (Scalar.cmpi .sgt (word c) (BitVec.ofNat 32 k.val)) a b
        = Scalar.select (Scalar.cmpi .sgt (word c) (BitVec.ofNat 32 k.val)) a' b := by
    by_cases hk : k.val < c.val
    · rw [h hk]
    · rw [not_before c k hk]; rfl
  have e (k : Fin 4) (hk : k.val < c.val) : shapeCast S1x1024 (s k) shapeCasts_S1x1x1024_S1x1024 = shapeCast S1x1024 (s' k) shapeCasts_S1x1x1024_S1x1024 := by
    rw [h k hk]
  have e0 := hw 0 _ _ (broadcast S1x1024 (Scalar.ofBits .f32 0x3F800000#32)) (e 0)
  have e1 := hw 1 _ _ (broadcast S1x1024 (Scalar.ofBits .f32 0x3F800000#32)) (e 1)
  have e2 := hw 2 _ _ (broadcast S1x1024 (Scalar.ofBits .f32 0x3F800000#32)) (e 2)
  have e3 := hw 3 _ _ (broadcast S1x1024 (Scalar.ofBits .f32 0x3F800000#32)) (e 3)
  unfold scaled k0_pay10 k0_pay9
  dsimp only
  exact congrArg₂ _ rfl (congrArg (fun r => broadcastTo S2048x1024 r broadcasts_S1x1024_S2048x1024)
    (congrArg₂ mulf (congrArg₂ mulf (congrArg₂ mulf (congrArg₂ mulf rfl e0) e1) e2) e3))

/-! ## Contents -/

/-- The memory at launch. -/
def s₀ : MemSt nD τ sig (Elt F) := ⟨m, fun _ => 0, ρ⟩

/-- The block of rows device `c` is given. -/
def blockOf (c : Dev nD) : (cc0_stg0_0 : Ref sig .tc).ty.Contents (Elt F) :=
  (win0_0.blk (0 : Fin 1)).view.read (Elt F) ((s₀ m ρ).mem ((c : Thread nD τ).loc main_arg0))
/-- The total of device `c`. -/
def total (c : Dev nD) : (cc0_scratch0 : Ref sig .tc).ty.Contents (Elt F) := colProd (blockOf m ρ c)
set_option backward.proofsInPublic true in
/-- The four slots once every total has landed. -/
def gathered : (cc0_scratch1 : Ref sig .tc).ty.Contents (Elt F) :=
  fun i => total m ρ (⟨(i 0).val, (i 0).isLt⟩ : Dev nD) (ix2 (0 : Fin 1) (⟨(i 2).val, (i 2).isLt⟩ : Fin 1024))
/-- Slot `k` of them, as the kernel loads it. -/
def slotRow (k : Fin 4) : Vec F S1x1x1024 .f32 :=
  fun i => total m ρ k (ix2 (0 : Fin 1) (⟨(i 2).val, (i 2).isLt⟩ : Fin 1024))
/-- The block device `c` writes. -/
def outAt (c : Dev nD) : (cc0_stg1_0 : Ref sig .tc).ty.Contents (Elt F) :=
  scaled c (localScan (blockOf m ρ c)) (slotRow m ρ)

omit [FloatOps F] in
/-- An index of a slot's row. -/
theorem slotM_emb (d : Dev nD) (x : S1x1024.Idx) :
    (((slotM d).view.emb x 0).val = d.val) ∧ (((slotM d).view.emb x 2).val = (x 1).val) := by
  have hx : x = ix2 (x 0) (x 1) := by funext a; fin_cases a <;> rfl
  have e : Shape.reshapeEquiv (squeezes_S1x1x1024_S1x1024.numel_eq) x = ix3 (0 : Fin 1) (x 0) (x 1) := by
    rw [hx]; exact reshapeEquiv_ix2_1ab _ _ _
  have h : ∀ a, ((slotM d).view.emb x a).val = k0_off2 d a + 1 * (ix3 (0 : Fin 1) (x 0) (x 1) a).val := fun a => by
    rw [← e]; rfl
  rw [h 0, h 2, k0_off2_eq]
  constructor
  · show d.val + 1 * 0 = d.val; omega
  · show 0 + 1 * (x 1).val = (x 1).val; omega

/-- The total of `d` written into slot `d` is what the gathered slots hold there. -/
theorem landed_eq (d : Dev nD) (f : (cc0_scratch1 : Ref sig .tc).ty.Contents (Elt F)) (i : (cc0_scratch1 : Ref sig .tc).ty.Idx) (hi : i ∈ slotSet d) :
    (slotM d).view.write (Elt F) f (tM.view.read (Elt F) (total m ρ d)) Finset.univ i = gathered m ρ i := by
  rw [← slotM_set] at hi
  obtain ⟨x, -, rfl⟩ := Finset.mem_map.mp hi
  obtain ⟨h0, h2⟩ := slotM_emb d x
  refine (View.write_emb_of_mem (v := (slotM d).view) f _ (Finset.mem_univ x)).trans ?_
  show total m ρ d x = gathered m ρ ((slotM d).view.emb x)
  unfold gathered
  have e0 : (⟨((slotM d).view.emb x 0).val, ((slotM d).view.emb x 0).isLt⟩ : Dev nD) = d := Fin.ext h0
  have e2 : (⟨((slotM d).view.emb x 2).val, ((slotM d).view.emb x 2).isLt⟩ : Fin 1024) = x 1 := Fin.ext h2
  rw [e0, e2]
  congr 1
  funext a
  fin_cases a
  · exact Subsingleton.elim (α := Fin 1) _ _
  · rfl

/-- Slot `d` of device `c`, at contents `f`. -/
def slotPts (c d : Dev nD) (f : (cc0_scratch1 : Ref sig .tc).ty.Contents (Elt F)) : sProp 𝕄 :=
  ((c : Thread nD τ).loc cc0_scratch1) ↦[slotSet d]{fullShare} f
/-- A share of the row of totals of device `c`. -/
def rowPts (c : Dev nD) (q : PosShare TreeShare) (f : (cc0_scratch0 : Ref sig .tc).ty.Contents (Elt F)) : sProp 𝕄 :=
  ((c : Thread nD τ).loc cc0_scratch0) ↦[Finset.univ]{q} f
/-- The share of the row lent to the `k`-th transfer. -/
def part : Fin 3 → PosShare TreeShare := fun | 0 => fullShare.left | 1 => fullShare.right.left | 2 => fullShare.right.right

omit [FloatOps F] in
instance slotPts_storable (c d : Dev nD) (f) : BI.Storable (upEmb : UEmb _ 𝕄) (slotPts (F := F) c d f) := by unfold slotPts; infer_instance
omit [FloatOps F] in
instance rowPts_storable (c : Dev nD) (q) (f) : BI.Storable (upEmb : UEmb _ 𝕄) (rowPts (F := F) c q f) := by unfold rowPts; infer_instance

omit [FloatOps F] in
/-- The row whole is its three parts. -/
theorem row_parts (c : Dev nD) (f : (cc0_scratch0 : Ref sig .tc).ty.Contents (Elt F)) :
    (rowPts c fullShare f : sProp 𝕄) ⊣⊢ iprop(rowPts c (part 0) f ∗ rowPts c (part 1) f ∗ rowPts c (part 2) f) := by
  unfold rowPts part
  have h1 := pointsTo_share (Ix := Unit) (Name := ℕ) (U := UU) (Lvl := ℕ) (I := Finset.univ) (f := f) (ℓ := (c : Thread nD τ).loc cc0_scratch0) (PosShare.mem_left_op_right fullShare)
  have h2 := pointsTo_share (Ix := Unit) (Name := ℕ) (U := UU) (Lvl := ℕ) (I := Finset.univ) (f := f) (ℓ := (c : Thread nD τ).loc cc0_scratch0) (PosShare.mem_left_op_right fullShare.right)
  exact ⟨h1.1.trans (sep_mono_right h2.1), (sep_mono_right h2.2).trans h1.2⟩

/-! ## The schedule -/

/-- The duties of a cell, by its part. -/
def dutiesOf (c : Dev nD) : Option Role → Finset (Fin 3)
  | none => ∅
  | some (.inl _) => Finset.univ
  | some (.inr (.inl _)) => {0}
  | some (.inr (.inr d)) => if d = c then ∅ else {0}

def amountOf : Option Role → ℕ
  | some (.inl _) => 1
  | _ => N

/-- What a duty hands over. Duty `k` of the barrier cell of `c` is paid by the device of which `c` is `k + 1` places on. -/
def payOf (c : Dev nD) (k : Fin 3) : Option Role → sProp 𝕄
  | none => iprop(emp)
  | some (.inl _) => iprop(∃ f, slotPts (up k.rev c) c f)
  | some (.inr (.inl j)) => rowPts c (part j) (total m ρ c)
  | some (.inr (.inr d)) => slotPts c d (gathered m ρ)

/-- Everything happens in round 0. -/
def sched : Rounds.Schedule (GSem nD τ sig) (Fin 3) 𝕄 where
  duties g r := if r = 0 ∧ g.1.2 = .tc then dutiesOf g.1.1 (roleOf g.2) else ∅
  unitless _ := False
  amount g _ _ := amountOf (roleOf g.2)
  payload g _ k := payOf m ρ g.1.1 k (roleOf g.2)
  amount_pos g _ _ _ := by
    unfold amountOf
    split
    · exact Nat.one_pos
    · exact N_pos

instance sched_storable (g : GSem nD τ sig) (r : ℕ) (d : Fin 3) :
    BI.Storable (upEmb : UEmb _ 𝕄) ((sched (F := F) m ρ).payload g r d) := by
  show BI.Storable upEmb (payOf m ρ g.1.1 d (roleOf g.2))
  unfold payOf
  split <;> infer_instance

theorem duties_cell (c : Dev nD) (x : Role) : (sched (F := F) m ρ).duties (cell (c, x)) 0 = dutiesOf c (some x) := by
  dsimp only [sched]; rw [if_pos ⟨rfl, rfl⟩, roleOf_semOf]
theorem duties_later (g : GSem nD τ sig) : ∀ r, 1 ≤ r → (sched (F := F) m ρ).duties g r = ∅ :=
  fun r hr => by dsimp only [sched]; rw [if_neg fun h => by omega]
theorem amount_cell (c : Dev nD) (x : Role) (r : ℕ) (k : Fin 3) : (sched (F := F) m ρ).amount (cell (c, x)) r k = amountOf (some x) := by
  dsimp only [sched]; rw [roleOf_semOf]
theorem payload_cell (c : Dev nD) (x : Role) (r : ℕ) (k : Fin 3) : (sched (F := F) m ρ).payload (cell (c, x)) r k = payOf m ρ c k (some x) := by
  dsimp only [sched]; rw [roleOf_semOf]

theorem duties_recv {c d : Dev nD} (h : d ≠ c) : (sched (F := F) m ρ).duties (recvCell c d) 0 = {0} := by
  rw [duties_cell]; exact if_neg h
/-- The receive cell of the device's own slot has no duty at all. -/
theorem duties_own (c : Dev nD) : ∀ r, 0 ≤ r → (sched (F := F) m ρ).duties (recvCell c c) r = ∅ := fun r _ => by
  rcases Nat.eq_zero_or_pos r with rfl | h
  · rw [duties_cell]; exact if_pos rfl
  · exact duties_later m ρ _ r h

theorem expect_bar (c : Dev nD) : (sched (F := F) m ρ).expect (barCell c) 0 = 3 := by
  unfold Schedule.expect Schedule.amountOf
  rw [duties_cell, Finset.sum_congr rfl fun k _ => amount_cell m ρ c (.inl ()) 0 k]; rfl
theorem expect_send (c : Dev nD) (k : Fin 3) : (sched (F := F) m ρ).expect (sendCell c k) 0 = N := by
  unfold Schedule.expect Schedule.amountOf
  rw [duties_cell]; show Finset.sum {0} _ = N; rw [Finset.sum_singleton, amount_cell]; rfl
theorem expect_recv {c d : Dev nD} (h : d ≠ c) : (sched (F := F) m ρ).expect (recvCell c d) 0 = N := by
  unfold Schedule.expect Schedule.amountOf
  rw [duties_recv m ρ h, Finset.sum_singleton, amount_cell]; rfl

theorem rest_bar (c : Dev nD) :
    bigSep ((sched (F := F) m ρ).duties (barCell c) 0 \ ∅) (fun k => (sched (F := F) m ρ).payload (barCell c) 0 k)
      = iprop((∃ f, slotPts (up 2 c) c f) ∗ (∃ f, slotPts (up 1 c) c f) ∗ (∃ f, slotPts (up 0 c) c f)) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl
theorem rest_send (c : Dev nD) (k : Fin 3) :
    bigSep ((sched (F := F) m ρ).duties (sendCell c k) 0 \ ∅) (fun j => (sched (F := F) m ρ).payload (sendCell c k) 0 j)
      = rowPts c (part k) (total m ρ c) := by
  rw [Finset.sdiff_empty, duties_cell]
  show bigSep {0} _ = _
  rw [bigSep_singleton, payload_cell]; rfl
theorem rest_recv {c d : Dev nD} (h : d ≠ c) :
    bigSep ((sched (F := F) m ρ).duties (recvCell c d) 0 \ ∅) (fun j => (sched (F := F) m ρ).payload (recvCell c d) 0 j)
      = slotPts c d (gathered m ρ) := by
  rw [Finset.sdiff_empty, duties_recv m ρ h, bigSep_singleton, payload_cell]; rfl

/-! ## What each device owes; the order of waiting -/

/-- A list of debts, the first to be paid first. -/
def owe : List (GSem nD τ sig × ℕ) → CellTallies nD τ sig Unit
  | [] => 0
  | p :: l => owe l + tallyAt p.1 () p.2

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    unfold owe at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨p', hp', e⟩ := ih h
      exact ⟨p', List.mem_cons_of_mem _ hp', e⟩

/-- The transfers' debts: the credit of the slot kept for `c` on each other device. -/
def duesSend (c : Dev nD) : List (GSem nD τ sig × ℕ) := [(recvCell (up 0 c) c, N), (recvCell (up 1 c) c, N), (recvCell (up 2 c) c, N)]
/-- All the debts, in the order they are paid: the three signals, then the three transfers. -/
def dues (c : Dev nD) : List (GSem nD τ sig × ℕ) :=
  (barCell (up 0 c), 1) :: (barCell (up 1 c), 1) :: (barCell (up 2 c), 1) :: duesSend c
def O₀ (c : Dev nD) : CellTallies nD τ sig Unit := owe (dues c)

def L (g : GSem nD τ sig) : Finset Unit := if g.1.2 = .tc then {()} else ∅
def lvOf : Option Role → ℕ
  | some (.inl _) => 1
  | some (.inr (.inr _)) => 2
  | _ => 0
/-- Barrier cells come before receive cells; staging and send cells before both. -/
def lv (g : GSem nD τ sig) (_ : Unit) : ℕ := lvOf (roleOf g.2)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell while it owes only cells of a higher level. -/
theorem mayWait (c : Dev nD) (sm : SemLoc sig) (l : List (GSem nD τ sig × ℕ)) (n : ℕ) (hs : lvOf (roleOf sm) ≤ n)
    (hl : ∀ p ∈ l, ∃ d x, p.1 = cell (d, x) ∧ n < lvOf (some x)) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, hp, rfl⟩ := owe_pos hg
      obtain ⟨d, x, e, -⟩ := hl p hp
      rw [e, L_tc]; exact Finset.mem_singleton_self _)
    (fun p hp => by rw [Finset.mem_singleton.mp hp]; exact hs)
    (fun g u hg => by
      obtain ⟨p, hp, rfl⟩ := owe_pos hg
      obtain ⟨d, x, e, h⟩ := hl p hp
      rw [e]; unfold lv; rw [roleOf_semOf]; exact h)

theorem duesSend_level (c : Dev nD) : ∀ p ∈ duesSend c, ∃ d x, p.1 = cell (d, x) ∧ 1 < lvOf (some x) := by
  intro p hp
  simp only [duesSend, List.mem_cons, List.not_mem_nil, or_false] at hp
  rcases hp with rfl | rfl | rfl <;> exact ⟨_, _, rfl, by unfold lvOf; simp only [Nat.one_lt_ofNat, Nat.zero_lt_one, Nat.ofNat_pos]⟩
theorem dues_level (c : Dev nD) : ∀ p ∈ dues c, ∃ d x, p.1 = cell (d, x) ∧ 0 < lvOf (some x) := by
  intro p hp
  simp only [dues, duesSend, List.mem_cons, List.not_mem_nil, or_false] at hp
  rcases hp with rfl | rfl | rfl | rfl | rfl | rfl <;> exact ⟨_, _, rfl, by unfold lvOf; simp only [Nat.one_lt_ofNat, Nat.zero_lt_one, Nat.ofNat_pos]⟩

end Cert.Exchange

end
-- ==== Proof.Body.lean ====
/-
One device's run of the kernel body: its three signals, the wait for the three others, its three transfers, the
running products down its own block, the three receives, the scaling by the totals before it, and the waits that give
the lent row back.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of three, of four, of all parts -/

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

theorem devs_toFinset : ∀ c : Dev nD, Finset.univ = [c, up 0 c, up 1 c, up 2 c].toFinset := by decide
theorem devs_nodup : ∀ c : Dev nD, [c, up 0 c, up 1 c, up 2 c].Nodup := by decide

omit [FloatOps F] in
/-- A conjunction over the devices, read from device `c` on round the ring. -/
theorem bigSep_from (c : Dev nD) (Φ : Dev nD → sProp 𝕄) :
    bigSep Finset.univ Φ = iprop(Φ c ∗ Φ (up 0 c) ∗ Φ (up 1 c) ∗ Φ (up 2 c)) := by
  rw [bigSep_univ_eq_bigSepL [c, up 0 c, up 1 c, up 2 c] (devs_toFinset c) (devs_nodup c), bigSepL_cons_cons, bigSepL_cons_cons, bigSepL_cons_cons, bigSepL_singleton]; rfl

omit [FloatOps F] in
/-- A conjunction over the parts a device's semaphores play. -/
theorem bigSep_roles (c : Dev nD) (Φ : Role → sProp 𝕄) :
    bigSep Finset.univ Φ = iprop(Φ (.inl ()) ∗ (Φ (.inr (.inl 0)) ∗ Φ (.inr (.inl 1)) ∗ Φ (.inr (.inl 2)))
      ∗ (Φ (.inr (.inr c)) ∗ Φ (.inr (.inr (up 0 c))) ∗ Φ (.inr (.inr (up 1 c))) ∗ Φ (.inr (.inr (up 2 c))))) := by
  rw [bigSep_univ_sum, bigSep_univ_sum, bigSep_univ_of_subsingleton (), bigSep_three, bigSep_from c]; rfl

/-! ## The slots together -/

theorem slotSet_disjoint (d d' : Dev nD) (h : d ≠ d') : Disjoint (slotSet d) (slotSet d') :=
  Finset.disjoint_left.mpr fun i hi hi' =>
    h (Fin.ext ((Finset.mem_filter.mp hi).2.symm.trans (Finset.mem_filter.mp hi').2))

theorem slotSet_all : Finset.univ.biUnion slotSet = Finset.univ :=
  Finset.eq_univ_of_forall fun i => Finset.mem_biUnion.mpr ⟨⟨(i 0).val, (i 0).isLt⟩, Finset.mem_univ _, Finset.mem_filter.mpr ⟨Finset.mem_univ _, rfl⟩⟩

omit [FloatOps F] in
/-- The buffer of slots is its four slots. -/
theorem slots_split (c : Dev nD) (f : (cc0_scratch1 : Ref sig .tc).ty.Contents (Elt F)) :
    (((c : Thread nD τ).loc cc0_scratch1) ↦[Finset.univ]{fullShare} f : sProp 𝕄)
      = iprop(slotPts c c f ∗ slotPts c (up 0 c) f ∗ slotPts c (up 1 c) f ∗ slotPts c (up 2 c) f) := by
  have h := pointsTo_biUnion (Ix := Unit) (Name := ℕ) (U := UU) (Lvl := ℕ) (ℓ := (c : Thread nD τ).loc cc0_scratch1) (q := fullShare) (f := f)
    Finset.univ slotSet fun d _ d' _ h => slotSet_disjoint d d' h
  have e : (Finset.univ.biUnion slotSet : Finset (Idx ((c : Thread nD τ).loc cc0_scratch1))) = Finset.univ := slotSet_all
  rw [e] at h
  exact h.trans (bigSep_from c fun d => slotPts c d f)

/-- The slots of `c` after the three totals landed: its own slot as it was. -/
def mixed (c : Dev nD) (f : (cc0_scratch1 : Ref sig .tc).ty.Contents (Elt F)) : (cc0_scratch1 : Ref sig .tc).ty.Contents (Elt F) :=
  fun i => if (i 0).val = c.val then f i else gathered m ρ i

omit [FloatOps F] in
theorem slotPts_congr (c d : Dev nD) (f g : (cc0_scratch1 : Ref sig .tc).ty.Contents (Elt F)) (h : ∀ i ∈ slotSet d, f i = g i) :
    (slotPts c d f : sProp 𝕄) = slotPts c d g := by unfold slotPts; exact pointsTo_congr h

theorem slots_join (c : Dev nD) (f : (cc0_scratch1 : Ref sig .tc).ty.Contents (Elt F)) :
    iprop(slotPts c c f ∗ slotPts c (up 0 c) (gathered m ρ) ∗ slotPts c (up 1 c) (gathered m ρ) ∗ slotPts c (up 2 c) (gathered m ρ))
      = (((c : Thread nD τ).loc cc0_scratch1) ↦[Finset.univ]{fullShare} mixed m ρ c f : sProp 𝕄) := by
  have hk (k : Fin 3) : ∀ i ∈ slotSet (up k c), gathered m ρ i = mixed m ρ c f i := fun i hi => by
    unfold mixed
    rw [if_neg fun h => up_ne k c (Fin.ext ((Finset.mem_filter.mp hi).2.symm.trans h))]
  rw [slots_split, slotPts_congr c c f (mixed m ρ c f) fun i hi => (if_pos (Finset.mem_filter.mp hi).2).symm,
    slotPts_congr c (up 0 c) _ _ (hk 0), slotPts_congr c (up 1 c) _ _ (hk 1), slotPts_congr c (up 2 c) _ _ (hk 2)]

/-- The rectangle of slot `k` in the buffer of slots. -/
abbrev slotRect (k : Fin 4) (inb : ∀ a, (![k.val, 0, 0] : Fin 3 → ℕ) a + S1x1x1024.size a ≤ S4x1x1024.size a) : Rect S4x1x1024 :=
  Rect.unit (s := S4x1x1024) ![k.val, 0, 0] S1x1x1024.size inb

/-- Reading the slots of the devices before `c` gives their totals. -/
theorem read_slot (c : Dev nD) (f : (cc0_scratch1 : Ref sig .tc).ty.Contents (Elt F)) (k : Fin 4) (inb) (h : k.val < c.val) :
    gM.view.readAt (Elt F) (slotRect k inb).toLoadRect (mixed m ρ c f) = slotRow m ρ k := by
  funext x
  have h0 : ∀ a, ((slotRect k inb).toLoadRect.idx x a).val = (![k.val, 0, 0] : Fin 3 → ℕ) a + 1 * (x a).val := fun a => rfl
  have hx0 : (x 0).val < 1 := (x 0).isLt
  have e0 : ((slotRect k inb).toLoadRect.idx x 0).val = k.val := (h0 0).trans (by show k.val + 1 * (x 0).val = _; omega)
  have e2 : ((slotRect k inb).toLoadRect.idx x 2).val = (x 2).val := (h0 2).trans (by show 0 + 1 * (x 2).val = _; omega)
  show mixed m ρ c f ((slotRect k inb).toLoadRect.idx x) = slotRow m ρ k x
  unfold mixed
  rw [if_neg (by rw [e0]; omega)]
  unfold gathered slotRow
  have d0 : (⟨((slotRect k inb).toLoadRect.idx x 0).val, ((slotRect k inb).toLoadRect.idx x 0).isLt⟩ : Dev nD) = k := Fin.ext e0
  have d2 : (⟨((slotRect k inb).toLoadRect.idx x 2).val, ((slotRect k inb).toLoadRect.idx x 2).isLt⟩ : Fin 1024) = ⟨(x 2).val, (x 2).isLt⟩ := Fin.ext e2
  rw [d0, d2]

/-! ## The ghost state of one device -/

/-- What all devices know: the invariant of every cell, and that every cell is at round 0. -/
def records (K : Dev nD × Role → ℕ) : sProp 𝕄 :=
  iprop((bigSep Finset.univ fun p : Dev nD × Role => cellInv ER (sched m ρ) (K p) (cell p))
    ∗ bigSep Finset.univ fun p : Dev nD × Role => reached ER (cell p) 0)

instance records_persistent (K : Dev nD × Role → ℕ) : BI.Persistent (records m ρ K) := by unfold records; infer_instance

theorem records_inv (K : Dev nD × Role → ℕ) (p : Dev nD × Role) : records m ρ K ⊢ cellInv ER (sched m ρ) (K p) (cell p) := by
  have h : (bigSep Finset.univ fun p : Dev nD × Role => (cellInv ER (sched m ρ) (K p) (cell p) : sProp 𝕄)) ⊢ cellInv ER (sched m ρ) (K p) (cell p) :=
    bigSep_elim (Finset.mem_univ p)
  unfold records
  iintro ⟨H, -⟩
  iapply h; iexact H

theorem records_reached (K : Dev nD × Role → ℕ) (p : Dev nD × Role) : records m ρ K ⊢ reached ER (cell p) 0 := by
  have h : (bigSep Finset.univ fun p : Dev nD × Role => (reached ER (cell p) 0 : sProp 𝕄)) ⊢ reached ER (cell p) 0 :=
    bigSep_elim (Finset.mem_univ p)
  unfold records
  iintro ⟨-, H⟩
  iapply h; iexact H

/-- The duties device `c` pays: for each other device its barrier cell's and its receive cell's, and its own send cells'. -/
def payToks (c : Dev nD) : sProp 𝕄 :=
  bigSep Finset.univ fun k : Fin 3 => iprop(dutyTok ER (barCell (up k c)) 0 k ∗ dutyTok ER (recvCell (up k c) c) 0 0 ∗ dutyTok ER (sendCell c k) 0 0)

/-- The positions and the tokens of device `c`. -/
def holdings (c : Dev nD) : sProp 𝕄 :=
  iprop((bigSep Finset.univ fun x : Role => atPos ER (cell (c, x)) 0 ∅ 0) ∗ payToks c)

/-- The credit device `c` waits with: three units on its barrier, one transfer on each receive cell of another device's slot. -/
def credits (c : Dev nD) : sProp 𝕄 :=
  iprop(cred (tallyAt (barCell c) () 3) ∗ cred (tallyAt (recvCell c (up 0 c)) () N)
    ∗ cred (tallyAt (recvCell c (up 1 c)) () N) ∗ cred (tallyAt (recvCell c (up 2 c)) () N))

def start (c : Dev nD) : sProp 𝕄 :=
  iprop((∃ K, records m ρ K ∗ holdings c) ∗ credits c ∗ levAts L lv)

/-- The two scratch buffers, holding anything. -/
def scratch (c : Dev nD) : sProp 𝕄 :=
  iprop((∃ f, rowPts c fullShare f) ∗ ∃ f, ((c : Thread nD τ).loc cc0_scratch1) ↦[Finset.univ]{fullShare} f)

def Φ₀ (c : Dev nD) : sProp 𝕄 := iprop(start m ρ c ∗ scratch c)
/-- At the end: the scratch buffers, and every semaphore of the exchange at zero. -/
def Φ₁ (c : Dev nD) : sProp 𝕄 := iprop(scratch c ∗ bigSep Finset.univ fun x : Role => semVal (cell (c, x)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## One step of each kind -/

section Steps

variable (K : Dev nD × Role → ℕ) (c : Dev nD)
variable {α : Type} {k : PUnit → Prog (TpuEff nD τ sig (Elt F) Λ₀ .tc) α}

/-- A signal to the device `j + 1` places on, handing it the slot kept for it. -/
theorem signal_step {Q : α → sProp 𝕄} (j : Fin 3) (n : Dev nD) (hn : n = up j c) (l : List (GSem nD τ sig × ℕ)) (W : Waits sig Unit)
    (f : (cc0_scratch1 : Ref sig .tc).ty.Contents (Elt F)) (a : ℕ) (ha : a = 1) :
    iprop(records m ρ K ∗ owes (c : Thread nD τ) (owe ((barCell (up j c), 1) :: l)) W ∗ dutyTok ER (barCell (up j c)) 0 j ∗ slotPts c (up j c) f)
      ⊢ iprop((owes (c : Thread nD τ) (owe l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  iintro ⟨#HR, HO, Ht, Hs⟩
  iapply (Rounds.wp_signal 𝒱₀ ER (sched m ρ) (c : Thread nD τ) none (dst := (up j c : Thread nD τ)) (κ := K (up j c, .inl ()))
      (d := j) (by rw [duties_cell m ρ (up j c) (.inl ())]; exact Finset.mem_univ _) (amount_cell m ρ (up j c) (.inl ()) 0 j) () (owe l) rfl)
  isplitr; · iapply (records_inv m ρ K (up j c, .inl ())); iexact HR
  isplitl [HO]; · iexact HO
  isplitl [Ht]; · iexact Ht
  isplitl [Hs]
  · rw [payload_cell m ρ (up j c) (.inl ())]; unfold payOf; rw [up_rev_up]
    iexists f; iexact Hs
  · iapply (records_reached m ρ K (up j c, .inl ())); iexact HR

/-- A transfer of the row of totals to the device `j + 1` places on. -/
theorem send_step {Q : α → sProp 𝕄} (j : Fin 3) (n : Dev nD) (hn : n = up j c) (l : List (GSem nD τ sig × ℕ)) (W : Waits sig Unit)
    (f : (cc0_scratch1 : Ref sig .tc).ty.Contents (Elt F))
    {hsc : (slotM c : Memref sig (Dev.tc n : Thread nD τ).2.kind .vmem S1x1024 .f32).view.ref.isScScratch = false}
    {hsrc : tM.view.WordExact} {hdst : (slotM c).view.WordExact}
    {hsem : DmaTarget.Typed .vmem (.dma (recvS c)) (.remote (Dev.tc n : Thread nD τ) (slotM c) (.dma (sendS j)) hsc)} :
    iprop(records m ρ K ∗ rowPts c (part j) (total m ρ c) ∗ slotPts (up j c) c f
        ∗ owes (c : Thread nD τ) (owe ((recvCell (up j c) c, N) :: l)) W ∗ dutyTok ER (sendCell c j) 0 0 ∗ dutyTok ER (recvCell (up j c) c) 0 0)
      ⊢ iprop(((cred (tallyAt (sendCell c j) () N) ∗ owes (c : Thread nD τ) (owe l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tM (.remote (Dev.tc n : Thread nD τ) (slotM c) (.dma (sendS j)) hsc) (.dma (recvS c)) hsrc hdst hsem) k) Q) := by
  subst hn
  have hp : iprop(records m ρ K ∗ rowPts c (part j) (total m ρ c) ∗ slotPts (up j c) c f
        ∗ owes (c : Thread nD τ) (owe ((recvCell (up j c) c, N) :: l)) W ∗ dutyTok ER (sendCell c j) 0 0 ∗ dutyTok ER (recvCell (up j c) c) 0 0)
      ⊢ iprop(cellInv ER (sched m ρ) (K (c, .inr (.inl j))) (sendCell c j) ∗ cellInv ER (sched m ρ) (K (up j c, .inr (.inr c))) (recvCell (up j c) c)
        ∗ (tM.view.loc (c : Thread nD τ) ↦[tM.view.set]{part j} total m ρ c) ∗ ((slotM c).view.loc (up j c : Thread nD τ) ↦[(slotM c).view.set]{fullShare} f)
        ∗ owes (c : Thread nD τ) (owe ((recvCell (up j c) c, N) :: l)) W
        ∗ dutyTok ER (sendCell c j) 0 0 ∗ reached ER (sendCell c j) 0
        ∗ dutyTok ER (recvCell (up j c) c) 0 0 ∗ reached ER (recvCell (up j c) c) 0) := by
    rw [View.set_whole, slotM_set]
    iintro ⟨#HR, Hrow, Hs, HO, Ht1, Ht2⟩
    isplitr; · iapply (records_inv m ρ K (c, .inr (.inl j))); iexact HR
    isplitr; · iapply (records_inv m ρ K (up j c, .inr (.inr c))); iexact HR
    isplitl [Hrow]; · unfold rowPts; iexact Hrow
    isplitl [Hs]; · unfold slotPts; iexact Hs
    isplitl [HO]; · iexact HO
    isplitl [Ht1]; · iexact Ht1
    isplitr; · iapply (records_reached m ρ K (c, .inr (.inl j))); iexact HR
    isplitl [Ht2]; · iexact Ht2
    iapply (records_reached m ρ K (up j c, .inr (.inr c))); iexact HR
  have h1 : (slotM c).view.amount (.dma (recvS c)) = N := rfl
  have hpay₁ : (tM.view.loc (c : Thread nD τ) ↦[tM.view.set]{part j} total m ρ c) ⊢ (sched m ρ).payload (sendCell c j) 0 0 := by
    rw [payload_cell m ρ c (.inr (.inl j)), View.set_whole]; exact BI.Entails.refl _
  have hpay₂ : ((slotM c).view.loc (up j c : Thread nD τ) ↦[(slotM c).view.set]{fullShare} ((slotM c).view.write (Elt F) f (tM.view.read (Elt F) (total m ρ c)) Finset.univ))
      ⊢ (sched m ρ).payload (recvCell (up j c) c) 0 0 := by
    rw [payload_cell m ρ (up j c) (.inr (.inr c)), slotM_set]
    exact Entails.of_eq (pointsTo_congr fun i hi => landed_eq m ρ c f i hi)
  have hd₁ : (0 : Fin 3) ∈ (sched (F := F) m ρ).duties (sendCell c j) 0 := by
    rw [duties_cell m ρ c (.inr (.inl j))]; exact Finset.mem_singleton_self _
  have hd₂ : (0 : Fin 3) ∈ (sched (F := F) m ρ).duties (recvCell (up j c) c) 0 := by
    rw [duties_recv m ρ (up_ne j c).symm]; exact Finset.mem_singleton_self _
  have hk₁ := amount_cell (F := F) m ρ c (.inr (.inl j)) 0 0
  have hk₂ := amount_cell (F := F) m ρ (up j c) (.inr (.inr c)) 0 0
  have hr : τ.routes (c : Thread nD τ) (up j c : Thread nD τ) = true := by routes
  have hO : owe ((recvCell (up j c) c, N) :: l) = owe l + tallyAt (recvCell (up j c) c) () N := rfl
  refine hp.trans ?_
  exact Rounds.wp_send_pointsTo 𝒱₀ ER (sched m ρ) (c : Thread nD τ) none (κ₁ := K (c, .inr (.inl j))) (κ₂ := K (up j c, .inr (.inr c)))
    (c' := (up j c : Thread nD τ)) (src := tM) (dst := slotM c) (sS := .dma (sendS j)) (sem := .dma (recvS c)) (hsc := hsc) (hsrc := hsrc) (hdst := hdst) (hsem := hsem)
    (r₁ := 0) (r₂ := 0) (d₁ := 0) (d₂ := 0) (q := part j) (fs := total m ρ c) (fd := f) (defs := defs₀ (F := F)) (Q := Q) (k := k) (Es := Set.univ)
    hd₁ hd₂ () () N h1 hk₁ hk₂ (owe l) hO (W := W) hpay₁ hpay₂ hr

/-- A wait for the whole of a cell's round: the cell is closed after it, and its payloads are the device's. -/
theorem wait_step {Q : α → sProp 𝕄} (x : Role) {w : TpuEff nD τ sig (Elt F) Λ₀ .tc PUnit} {n : ℕ}
    (hw : ∀ Kw : PUnit → sProp 𝕄, wpE (defs₀ (F := F)) 𝒱₀ (c : Thread nD τ) none Set.univ w Kw = waitSpec (c : Thread nD τ) Set.univ (semOf x) n Kw)
    (hn : n = (sched (F := F) m ρ).expect (cell (c, x)) 0) (l : List (GSem nD τ sig × ℕ)) (W : Waits sig Unit)
    (b : ℕ) (hb : lvOf (some x) ≤ b) (hl : ∀ p ∈ l, ∃ d y, p.1 = cell (d, y) ∧ b < lvOf (some y)) :
    iprop(records m ρ K ∗ levAts L lv ∗ cred (tallyAt (cell (c, x)) () n) ∗ owes (c : Thread nD τ) (owe l) W ∗ atPos ER (cell (c, x)) 0 ∅ 0)
      ⊢ iprop(((owes (c : Thread nD τ) (owe l) (insert (semOf x, ()) W) ∗ semVal (cell (c, x)) 0
                ∗ bigSep ((sched (F := F) m ρ).duties (cell (c, x)) 0 \ ∅) (fun d => (sched (F := F) m ρ).payload (cell (c, x)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, #Hlev, Hc, HO, Hat⟩ Hk
  iapply (Rounds.wp_wait_rest_token 𝒱₀ ER (sched m ρ) (c : Thread nD τ) none (κ := K (c, x))
      hw (Set.mem_univ _) () (O := owe l) (W := W) (R := 0) (m := 0) (T := ∅) (by rw [Nat.zero_add]; exact hn)) $$ [Hc HO Hat]
  · isplitr; · iapply (records_inv m ρ K (c, x)); iexact HR
    isplitl [Hc]; · iexact Hc
    isplitl [HO]; · iexact HO
    isplitr
    · iapply (mayWait (F := F) c (semOf x) l b (by rw [roleOf_semOf]; exact hb) hl); iexact Hlev
    iexact Hat
  iintro ⟨HO, Hat, -, Hpay⟩
  imod (Rounds.cell_close ER (sched m ρ) (Set.mem_univ (K (c, x))) (fun h => h) (R := 0 + 1) (duties_later m ρ (cell (c, x)))) $$ [Hat] with Hz
  · isplitr; · iapply (records_inv m ρ K (c, x)); iexact HR
    iexact Hat
  iapply Hk
  isplitl [HO]; · iexact HO
  isplitl [Hz]; · iexact Hz
  iexact Hpay

/-- The wait for the three other devices: their slots for this device are now its own to fill. -/
theorem barrier_step {Q : α → sProp 𝕄} (a : ℕ) (ha : a = 3) (W : Waits sig Unit) :
    iprop(records m ρ K ∗ levAts L lv ∗ cred (tallyAt (barCell c) () 3) ∗ owes (c : Thread nD τ) (owe (duesSend c)) W ∗ atPos ER (barCell c) 0 ∅ 0)
      ⊢ iprop(((owes (c : Thread nD τ) (owe (duesSend c)) (insert (semOf (.inl ()), ()) W) ∗ semVal (barCell c) 0
                ∗ (∃ f, slotPts (up 2 c) c f) ∗ (∃ f, slotPts (up 1 c) c f) ∗ (∃ f, slotPts (up 0 c) c f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  rw [← rest_bar m ρ c]
  exact wait_step m ρ K c (.inl ()) (wpE_semWait_eq 𝒱₀ (c : Thread nD τ) none Set.univ) (expect_bar m ρ c).symm (duesSend c) W 1 (Nat.le_refl 1) (duesSend_level c)

/-- The wait for the total of the device `j + 1` places on. -/
theorem receive_step {Q : α → sProp 𝕄} (j : Fin 3) (off : Fin 1 → ℕ) (inb) (h : off = k0_off1 (up j c)) (off' : Fin 3 → ℕ) (inb') (W : Waits sig Unit)
    {hsrc : tM.view.WordExact} {hdst : (slotAt off' inb').view.WordExact} :
    iprop(records m ρ K ∗ levAts L lv ∗ cred (tallyAt (recvCell c (up j c)) () N) ∗ owes (c : Thread nD τ) (owe []) W ∗ atPos ER (recvCell c (up j c)) 0 ∅ 0)
      ⊢ iprop(((owes (c : Thread nD τ) (owe []) (insert (semOf (.inr (.inr (up j c))), ()) W) ∗ semVal (recvCell c (up j c)) 0 ∗ slotPts c (up j c) (gathered m ρ))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvAt off inb) tM (slotAt off' inb') hsrc hdst) k) Q) := by
  subst h
  have hw (Kw : PUnit → sProp 𝕄) : wpE (defs₀ (F := F)) 𝒱₀ (c : Thread nD τ) none Set.univ (.waitDma2 (recvS (up j c)) tM (slotAt off' inb') hsrc hdst) Kw
      = waitSpec (c : Thread nD τ) Set.univ (semOf (.inr (.inr (up j c)))) N Kw :=
    (wpE_waitDma2_eq 𝒱₀ (c : Thread nD τ) none Set.univ Kw).trans (congrArg (fun n => waitSpec (c : Thread nD τ) Set.univ (semOf (.inr (.inr (up j c)))) n Kw) (slot_credit off' inb'))
  rw [← rest_recv m ρ (up_ne j c)]
  exact wait_step m ρ K c (.inr (.inr (up j c))) hw (expect_recv m ρ (up_ne j c)).symm [] W 2 (Nat.le_refl 2)
    (fun p hp => absurd hp List.not_mem_nil)

/-- The wait for transfer `j` to have read its source: the share of the row it was lent. -/
theorem sent_step {Q : α → sProp 𝕄} (j : Fin 3) {src : Memref sig .tc .vmem S1x1024 .f32} (W : Waits sig Unit)
    {hsrc : src.view.WordExact} {hdst : tM.view.WordExact} :
    iprop(records m ρ K ∗ levAts L lv ∗ cred (tallyAt (sendCell c j) () N) ∗ owes (c : Thread nD τ) (owe []) W ∗ atPos ER (sendCell c j) 0 ∅ 0)
      ⊢ iprop(((owes (c : Thread nD τ) (owe []) (insert (semOf (.inr (.inl j)), ()) W) ∗ semVal (sendCell c j) 0 ∗ rowPts c (part j) (total m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src tM hsrc hdst) k) Q) := by
  rw [← rest_send m ρ c j]
  exact wait_step m ρ K c (.inr (.inl j)) (wpE_waitDma2_eq 𝒱₀ (c : Thread nD τ) none Set.univ) (expect_send m ρ c j).symm [] W 2 (Nat.zero_le 2)
    (fun p hp => absurd hp List.not_mem_nil)

end Steps

/-! ## The body -/

section Body

variable (K : Dev nD × Role → ℕ)

theorem bigSep_W (Φ : Fin cfg0.W → sProp 𝕄) : bigSep Finset.univ Φ = iprop(Φ (0 : Fin 2) ∗ Φ (1 : Fin 2)) := bigSep_W0 Φ

theorem fetch_x (t : Fin cfg0.N) : (cfg0.win (0 : Fin 2)).fetch t = true := by rw [fin_N t]; rfl

abbrev rBlock : Rect S2048x1024 := Rect.unit (s := S2048x1024) ![0, 0] S2048x1024.size inb_S2048x1024_S2048x1024_0_0
abbrev rRow : Rect S1x1024 := Rect.unit (s := S1x1024) ![0, 0] S1x1024.size inb_S1x1024_S1x1024_0_0

theorem zeros₂ : (![0, 0] : Fin 2 → ℕ) = fun _ => 0 := funext fun a => by fin_cases a <;> rfl
omit [FloatOps F] in
/-- A load of all of a buffer gives its contents; a store to all of it leaves what was stored. -/
theorem read_x (f : (cc0_stg0_0 : Ref sig .tc).ty.Contents (Elt F)) : xM.view.readAt (Elt F) rBlock.toLoadRect f = f :=
  Memref.readAt_unit_zero (Elt F) cc0_stg0_0 zeros₂ _ f
omit [FloatOps F] in
theorem read_o (f : (cc0_stg1_0 : Ref sig .tc).ty.Contents (Elt F)) : oM.view.readAt (Elt F) rBlock.toLoadRect f = f :=
  Memref.readAt_unit_zero (Elt F) cc0_stg1_0 zeros₂ _ f
omit [FloatOps F] in
theorem write_o (f w : (cc0_stg1_0 : Ref sig .tc).ty.Contents (Elt F)) : (oM.access rBlock : View sig .tc _ _ _).write (Elt F) f w Finset.univ = w :=
  Memref.write_access_unit_zero_univ (Elt F) cc0_stg1_0 zeros₂ _ f w
omit [FloatOps F] in
theorem write_t (f w : (cc0_scratch0 : Ref sig .tc).ty.Contents (Elt F)) : (tM.access rRow : View sig .tc _ _ _).write (Elt F) f w Finset.univ = w :=
  Memref.write_access_unit_zero_univ (Elt F) cc0_scratch0 zeros₂ _ f w

/-- A staging buffer of `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts from on device `c`, and what it leaves. -/
def bodyPre (c : Dev nD) : sProp 𝕄 :=
  iprop(((records m ρ K ∗ holdings c) ∗ credits c ∗ levAts L lv) ∗ scratch c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (blockOf m ρ c) ∗ stg c cc0_stg1_0 (outAt m ρ c))

set_option maxHeartbeats 1600000 in
/-- The body runs from the one to the other. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre holdings credits scratch payToks
  rw [bigSep_roles c, bigSep_three]
  iintro ⟨⟨⟨⟨#HR, ⟨HaB, ⟨HaS0, HaS1, HaS2⟩, HaO, HaV0, HaV1, HaV2⟩, ⟨HtB0, HtV0, HtS0⟩, ⟨HtB1, HtV1, HtS1⟩, HtB2, HtV2, HtS2⟩, ⟨HcB, HcV0, HcV1, HcV2⟩, #Hlev⟩,
    ⟨⟨%ft, Ht⟩, ⟨%fg, Hg⟩⟩, Ho, ⟨%d0, %g0, %hg0, Hx⟩, ⟨%d1, %g1, %hg1, Hout⟩⟩, Hk⟩
  have hx : g0 = blockOf m ρ c := by rw [hg0]; unfold Dat.before; rw [if_pos (fetch_x t₀)]; rfl
  subst hx
  unfold Dat.owesAt Pipeline.owesWithin
  icases Ho with ⟨%W, %hW, HO⟩
  rw [show (dats m ρ 0 c).owed t₀.castSucc = owe (dues c) from rfl]
  ihave Hg' := (Entails.of_eq (slots_split c fg)) $$ Hg
  icases Hg' with ⟨Hg, Hg0, Hg1, Hg2⟩
  unfold dues
  -- the signals, each handing over a slot
  iapply (signal_step m ρ K c 0 _ (dev1_eq c) _ W fg _ (by decide)) $$ [HO HtB0 Hg0]
  · isplitr; · iexact HR
    isplitl [HO]; · iexact HO
    isplitl [HtB0] <;> iassumption
  iintro HO
  iapply (signal_step m ρ K c 1 _ (dev2_eq c) _ W fg _ (by decide)) $$ [HO HtB1 Hg1]
  · isplitr; · iexact HR
    isplitl [HO]; · iexact HO
    isplitl [HtB1] <;> iassumption
  iintro HO
  iapply (signal_step m ρ K c 2 _ (dev3_eq c) _ W fg _ (by decide)) $$ [HO HtB2 Hg2]
  · isplitr; · iexact HR
    isplitl [HO]; · iexact HO
    isplitl [HtB2] <;> iassumption
  iintro HO
  -- the others' slots
  iapply (barrier_step m ρ K c _ (by decide) W) $$ [HO HcB HaB]
  · isplitr; · iexact HR
    isplitr; · iexact Hlev
    isplitl [HcB]; · iexact HcB
    isplitl [HO] <;> iassumption
  iintro ⟨HO, HzB, ⟨%f2, Hs2⟩, ⟨%f1, Hs1⟩, ⟨%f0, Hs0⟩⟩
  -- the total of the block, into the row
  iapply (wp_load 𝒱₀ (c : Thread nD τ) none Set.univ (m := xM) (Finset.subset_univ _)) $$ Hx; iintro Hx
  rw [read_x]
  unfold rowPts
  iapply (wp_load 𝒱₀ (c : Thread nD τ) none Set.univ (m := tM) (Finset.subset_univ _)) $$ Ht; iintro Ht
  iapply (wp_store 𝒱₀ (c : Thread nD τ) none Set.univ (m := tM) (r := rRow) (Mk := Finset.univ) (Finset.subset_univ _)) $$ Ht; iintro Ht
  rw [write_t]
  ihave Ht' := (row_parts c (total m ρ c)).1 $$ [Ht]
  · unfold rowPts; iexact Ht
  icases Ht' with ⟨Ht0, Ht1, Ht2⟩
  unfold duesSend
  -- the transfers
  iapply (send_step m ρ K c 0 _ (dev4_eq c) _ _ f0) $$ [HO Ht0 Hs0 HtS0 HtV0]
  · isplitr; · iexact HR
    isplitl [Ht0]; · iexact Ht0
    isplitl [Hs0]; · iexact Hs0
    isplitl [HO]; · iexact HO
    isplitl [HtS0] <;> iassumption
  iintro ⟨HcS0, HO⟩
  iapply (send_step m ρ K c 1 _ (dev5_eq c) _ _ f1) $$ [HO Ht1 Hs1 HtS1 HtV1]
  · isplitr; · iexact HR
    isplitl [Ht1]; · iexact Ht1
    isplitl [Hs1]; · iexact Hs1
    isplitl [HO]; · iexact HO
    isplitl [HtS1] <;> iassumption
  iintro ⟨HcS1, HO⟩
  iapply (send_step m ρ K c 2 _ (dev6_eq c) _ _ f2) $$ [HO Ht2 Hs2 HtS2 HtV2]
  · isplitr; · iexact HR
    isplitl [Ht2]; · iexact Ht2
    isplitl [Hs2]; · iexact Hs2
    isplitl [HO]; · iexact HO
    isplitl [HtS2] <;> iassumption
  iintro ⟨HcS2, HO⟩
  -- the running products down the block
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := rBlock) (Mk := Finset.univ) (Finset.subset_univ _)) $$ Hout; iintro Hout
  rw [write_o]
  -- the receives
  iapply (receive_step m ρ K c 0 _ _ (off3_eq 0 c) _ _ _) $$ [HO HcV0 HaV0]
  · isplitr; · iexact HR
    isplitr; · iexact Hlev
    isplitl [HcV0]; · iexact HcV0
    isplitl [HO] <;> iassumption
  iintro ⟨HO, HzV0, Hs0⟩
  iapply (receive_step m ρ K c 1 _ _ (off3_eq 1 c) _ _ _) $$ [HO HcV1 HaV1]
  · isplitr; · iexact HR
    isplitr; · iexact Hlev
    isplitl [HcV1]; · iexact HcV1
    isplitl [HO] <;> iassumption
  iintro ⟨HO, HzV1, Hs1⟩
  iapply (receive_step m ρ K c 2 _ _ (off3_eq 2 c) _ _ _) $$ [HO HcV2 HaV2]
  · isplitr; · iexact HR
    isplitr; · iexact Hlev
    isplitl [HcV2]; · iexact HcV2
    isplitl [HO] <;> iassumption
  iintro ⟨HO, HzV2, Hs2⟩
  ihave Hg' := (Entails.of_eq (slots_join m ρ c fg)) $$ [Hg Hs0 Hs1 Hs2]
  · isplitl [Hg]; · iexact Hg
    isplitl [Hs0]; · iexact Hs0
    isplitl [Hs1] <;> iassumption
  -- the slots read, and the scaling by the totals before
  iapply (wp_load 𝒱₀ (c : Thread nD τ) none Set.univ (m := gM) (Finset.subset_univ _)) $$ Hg'; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  rw [read_o]
  iapply (wp_store 𝒱₀ (c : Thread nD τ) none Set.univ (m := oM) (r := rBlock) (Mk := Finset.univ) (Finset.subset_univ _)) $$ Hout; iintro Hout
  rw [write_o]
  -- the row back
  iapply (sent_step m ρ K c 0 _) $$ [HO HcS0 HaS0]
  · isplitr; · iexact HR
    isplitr; · iexact Hlev
    isplitl [HcS0]; · iexact HcS0
    isplitl [HO] <;> iassumption
  iintro ⟨HO, HzS0, Ht0⟩
  iapply (sent_step m ρ K c 1 _) $$ [HO HcS1 HaS1]
  · isplitr; · iexact HR
    isplitr; · iexact Hlev
    isplitl [HcS1]; · iexact HcS1
    isplitl [HO] <;> iassumption
  iintro ⟨HO, HzS1, Ht1⟩
  iapply (sent_step m ρ K c 2 _) $$ [HO HcS2 HaS2]
  · isplitr; · iexact HR
    isplitr; · iexact Hlev
    isplitl [HcS2]; · iexact HcS2
    isplitl [HO] <;> iassumption
  iintro ⟨HO, HzS2, Ht2⟩
  rw [wp_ret]
  -- the cell of the device's own slot, which nobody uses
  imod (Rounds.cell_close ER (sched m ρ) (Set.mem_univ (K (c, .inr (.inr c)))) (fun h => h) (R := 0) (duties_own m ρ c)) $$ [HaO] with HzO
  · isplitr; · iapply (records_inv m ρ K (c, .inr (.inr c))); iexact HR
    iexact HaO
  imodintro
  iapply Hk
  unfold bodyPost Φ₁ scratch Dat.owesAt Pipeline.owesWithin
  rw [show (dats m ρ 0 c).owed t₀.succ = owe [] from rfl, bigSep_roles c]
  isplitl [Ht0 Ht1 Ht2 Hg HzB HzS0 HzS1 HzS2 HzO HzV0 HzV1 HzV2]
  · isplitl [Ht0 Ht1 Ht2 Hg]
    · isplitl [Ht0 Ht1 Ht2]
      · iexists (total m ρ c)
        iapply (row_parts c (total m ρ c)).2
        isplitl [Ht0]; · iexact Ht0
        isplitl [Ht1] <;> iassumption
      · iexists _; iexact Hg
    isplitl [HzB]; · iexact HzB
    isplitl [HzS0 HzS1 HzS2]
    · isplitl [HzS0]; · iexact HzS0
      isplitl [HzS1] <;> iassumption
    isplitl [HzO]; · iexact HzO
    isplitl [HzV0]; · iexact HzV0
    isplitl [HzV1] <;> iassumption
  isplitl [HO]
  · iexists _
    isplitr
    rotate_left
    · iexact HO
    ipureintro; exact fun _ _ => Or.inl trivial
  isplitl [Hx]
  · iexists _; isplitr; · (ipureintro; rfl)
    iexact Hx
  iexists _
  isplitr
  rotate_left
  · iexact Hout
  ipureintro
  exact scaled_congr c _ (fun k => gM.view.readAt (Elt F) (slotRect k (by revert k; decide)).toLoadRect (mixed m ρ c fg)) (slotRow m ρ) fun k hk => read_slot m ρ c fg k _ hk

set_option maxRecDepth 4000 in
/-- The pipeline's obligation for the body on device `c`. -/
theorem body_obligation (c : Dev nD) : BodyObligation (dats (F := F) m ρ 0 c) (defs₀ (F := F)) 𝒱₀ () Set.univ := fun t => by
  rw [fin_N t]
  rw [bigSep_W, bigSep_W]
  have hpre (K : Dev nD × Role → ℕ) : iprop(((records m ρ K ∗ holdings c) ∗ credits c ∗ levAts L lv) ∗ scratch c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d))) ⊢ bodyPre m ρ K c := BI.Entails.refl _
  simp only [owns_whole]
  show iprop(Φ₀ m ρ c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d))) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold Φ₀ start
  iintro ⟨⟨⟨⟨%K, Hg⟩, Hc, Hl⟩, Hscr⟩, Ho, Hx, Hout⟩
  iapply (sound_body m ρ K c fun _ => bodyPost m ρ c)
  isplitr []
  · iapply (hpre K)
    isplitl [Hg Hc Hl]
    · isplitl [Hg]; · iexact Hg
      isplitl [Hc] <;> iassumption
    isplitl [Hscr]; · iexact Hscr
    isplitl [Ho]; · iexact Ho
    isplitl [Hx] <;> iassumption
  · iintro H; iexact H

end Body

end Cert.Exchange

end
-- ==== Proof.Launch.lean ====
/-
The launch: the ghost state is dealt to the devices, every semaphore of the exchange gets its invariant, and the four
runs of the body together are the run of @main.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the three send semaphores and the four receive semaphores. -/
def osem : Fin 7 → SemLoc sig := fun
  | 0 => semOf (.inr (.inl 0)) | 1 => semOf (.inr (.inl 1)) | 2 => semOf (.inr (.inl 2))
  | 3 => semOf (.inr (.inr 0)) | 4 => semOf (.inr (.inr 1)) | 5 => semOf (.inr (.inr 2)) | 6 => semOf (.inr (.inr 3))

theorem ownSemFacts : Pipeline.OwnSemFacts cfg0.spec osem := by decide

theorem share_eq (c : Dev nD) (w : Fin cfg0.W) : (dats m ρ 0 c).share w = fullShare := by unfold Dat.share; split <;> rfl

/-! ## Cells and tokens -/

def allCells : Finset (GSem nD τ sig) := Finset.univ.map ⟨cell, cell_inj⟩

/-- The duties device `c` pays, in three kinds: a signal, a transfer's arrival, a transfer's departure. -/
def tokKey : Dev nD × Fin 3 × Fin 3 → (Dev nD × Role) × Fin 3 := fun
  | (c, k, 0) => ((up k c, .inl ()), k)
  | (c, k, 1) => ((up k c, .inr (.inr c)), 0)
  | (c, k, 2) => ((c, .inr (.inl k)), 0)
theorem tokKey_inj : Function.Injective tokKey := by
  have h : ∀ a b, tokKey a = tokKey b → a = b := by decide +kernel
  exact fun a b => h a b
def tokOf (a : Dev nD × Fin 3 × Fin 3) : GSem nD τ sig × ℕ × Fin 3 := (cell (tokKey a).1, 0, (tokKey a).2)
theorem tokOf_inj : Function.Injective tokOf := fun a b h =>
  tokKey_inj (Prod.ext (cell_inj (congrArg Prod.fst h)) (congrArg (fun x : GSem nD τ sig × ℕ × Fin 3 => x.2.2) h))
def allToks : Finset (GSem nD τ sig × ℕ × Fin 3) := Finset.univ.map ⟨tokOf, tokOf_inj⟩

def u₀ : UU :=
  (initOf (Pipeline.cells cfgs cellOf_inj) (Pipeline.launchToks cfgs cellOf_inj), initOf allCells allToks)

/-- What the launch deals device `c`. -/
def G (c : Dev nD) : sProp 𝕄 :=
  iprop((bigSep Finset.univ fun x : Role => roundState ER (sched m ρ) (cell (c, x)) 0)
    ∗ (bigSep Finset.univ fun x : Role => iprop(atPos ER (cell (c, x)) 0 ∅ 0 ∗ reached ER (cell (c, x)) 0)) ∗ payToks c)

/-- What it holds once the invariants stand. -/
def G' (c : Dev nD) : sProp 𝕄 := iprop(∃ K, records m ρ K ∗ holdings c)

theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Role => Φ (cell (c, x)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    refine bigSep_congr fun c _ => ?_
    unfold payToks
    rw [bigSep_univ_prod]
    exact bigSep_congr fun k _ => by rw [bigSep_three]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_devs (Φ : Dev nD → sProp 𝕄) : bigSep Finset.univ Φ = iprop(Φ 0 ∗ Φ 1 ∗ Φ 2 ∗ Φ 3) :=
  bigSep_univ_eq_bigSepL [(0 : Dev nD), 1, 2, 3] (by decide) (by decide) Φ

omit [FloatOps F] in
/-- All semaphores of a device at zero, split as the launch has them. -/
theorem sems0 (c : Dev nD) :
    (bigSep Finset.univ fun x : Role => semVal (cell (c, x)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_sum, bigSep_univ_of_subsingleton (), bigSep_three, bigSep_devs, ownSems0_eq, unscopedSems0_eq]
  refine congrArg (fun X => iprop(semVal (barCell c) 0 ∗ X)) ?_
  have a (P Q R S : sProp 𝕄) : iprop((P ∗ Q ∗ R) ∗ S) = iprop(P ∗ Q ∗ R ∗ S) := by
    have e (P Q R : sProp 𝕄) : iprop((P ∗ Q) ∗ R) = iprop(P ∗ Q ∗ R) := equiv_iff.mp ⟨BI.sep_assoc, BI.sep_assoc'⟩
    rw [e, e]
  exact a _ _ _ _

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (sched m ρ) κ (cell (c, x))))
          ∗ (bigSep Finset.univ fun x => iprop(atPos ER (cell (c, x)) 0 ∅ 0 ∗ reached ER (cell (c, x)) 0)) ∗ payToks c) := by
  unfold G
  have ha : iprop((bigSep Finset.univ fun x : Role => semVal (cell (c, x)) 0) ∗ bigSep Finset.univ fun x : Role => roundState ER (sched m ρ) (cell (c, x)) 0)
      ⊢ (|={Set.univ}=> bigSep Finset.univ fun x => iprop(∃ κ : ℕ, cellInv ER (sched m ρ) κ (cell (c, x))) : sProp 𝕄) := by
    rw [← bigSep_sep']
    exact (bigSep_mono fun x _ => (Rounds.body_intro ER (sched m ρ) (cell (c, x))).trans inv_alloc).trans (bigSep_fupd _ _)
  iintro ⟨Hos, Hus, Hst, Hat, Htok⟩
  ihave Hv := (Entails.of_eq (sems0 (F := F) c).symm) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun x => iprop(∃ κ : ℕ, cellInv ER (sched m ρ) κ (cell (c, x))))
          ∗ (bigSep Finset.univ fun x => iprop(atPos ER (cell (c, x)) 0 ∅ 0 ∗ reached ER (cell (c, x)) 0)) ∗ payToks c) : sProp 𝕄)
      ⊢ bigSep Finset.univ (G' m ρ) := by
  have hG (K : Dev nD × Role → ℕ) : iprop(records m ρ K ∗ bigSep Finset.univ fun c : Dev nD => (holdings c : sProp 𝕄)) ⊢ bigSep Finset.univ (G' m ρ) := by
    refine (sep_mono_left (BI.bigSep_of_persistent (Finset.univ : Finset (Dev nD)) (records m ρ K))).trans ?_
    rw [← bigSep_sep']
    have hc (c : Dev nD) : iprop(records m ρ K ∗ holdings c) ⊢ G' m ρ c := by
      unfold G'
      iintro H
      iexists K; iexact H
    exact bigSep_mono fun c _ => hc c
  rw [bigSep_sep', bigSep_sep', ← bigSep_univ_prod (fun p : Dev nD × Role => iprop(∃ κ : ℕ, cellInv ER (sched m ρ) κ (cell p))),
    bigSep_congr (s := Finset.univ) (fun (c : Dev nD) _ => bigSep_sep' Finset.univ (fun x : Role => (atPos ER (cell (c, x)) 0 ∅ 0 : sProp 𝕄)) (fun x => reached ER (cell (c, x)) 0)),
    bigSep_sep', ← bigSep_univ_prod (fun p : Dev nD × Role => (reached ER (cell p) 0 : sProp 𝕄))]
  iintro ⟨HI, ⟨Hat, #HR⟩, Htok⟩
  ihave HK := (BI.bigSep_exists_pi Finset.univ (fun (p : Dev nD × Role) (κ : ℕ) => (cellInv ER (sched m ρ) κ (cell p) : sProp 𝕄))) $$ HI
  icases HK with ⟨%K, #HI⟩
  iapply (hG K)
  isplitr
  · unfold records; isplitl; · iexact HI
    iexact HR
  · unfold holdings
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem owe_apply (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, ih, tallyAt_apply, List.map_cons, List.sum_cons, Nat.add_comm]
    simp only [and_true]

/-- Three units come to each barrier; -/
theorem due_bar (c : Dev nD) : ∑ d : Dev nD, O₀ d (barCell c) () = 3 := by
  have h (d : Dev nD) : O₀ d (barCell c) () = ∑ k : Fin 3, if c = up k d then 1 else 0 := by
    unfold O₀
    rw [owe_apply, Fin.sum_univ_three]
    simp only [dues, duesSend, List.map_cons, List.map_nil, List.sum_cons, List.sum_nil, cell_inj.eq_iff, Prod.mk.injEq, reduceCtorEq, and_false, and_true, if_false, Nat.add_zero]
    omega
  rw [Finset.sum_congr rfl fun d _ => h d]
  clear h; revert c; decide

/-- one transfer's credit to each receive cell of another device's slot. -/
theorem due_recv (j : Fin 3) (c : Dev nD) : ∑ d : Dev nD, O₀ d (recvCell c (up j c)) () = N := by
  have h (d : Dev nD) : O₀ d (recvCell c (up j c)) () = (∑ k : Fin 3, if c = up k d ∧ up j c = d then 1 else 0) * N := by
    unfold O₀
    rw [owe_apply, Fin.sum_univ_three]
    simp only [dues, duesSend, List.map_cons, List.map_nil, List.sum_cons, List.sum_nil, cell_inj.eq_iff, Prod.mk.injEq, reduceCtorEq, and_false, if_false, Nat.add_zero, Nat.zero_add,
      Sum.inr.injEq, Nat.add_mul, ite_mul, Nat.one_mul, Nat.zero_mul, Nat.add_assoc]
  rw [Finset.sum_congr rfl fun d _ => h d, ← Finset.sum_mul]
  have e : ∀ (j : Fin 3) (c : Dev nD), (∑ d : Dev nD, ∑ k : Fin 3, if c = up k d ∧ up j c = d then 1 else 0) = 1 := by decide
  rw [e, Nat.one_mul]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred O₀ c : sProp 𝕄) ⊢ credits c := by
  unfold Pipeline.launchCred credits
  rw [bigSep_univ_at _ (semOf (.inl ())), launch_at (barCell c) 3 (due_bar c), ← launch_at _ N (due_recv 0 c), ← launch_at _ N (due_recv 1 c), ← launch_at _ N (due_recv 2 c)]
  refine sep_mono_right ?_
  refine (Entails.of_eq (BI.bigSep_erase (i := semOf (.inr (.inr (up 0 c)))) (by revert c; decide +kernel))).trans (sep_mono_right ?_)
  refine (Entails.of_eq (BI.bigSep_erase (i := semOf (.inr (.inr (up 1 c)))) (by revert c; decide +kernel))).trans (sep_mono_right ?_)
  exact bigSep_elim (by revert c; decide +kernel)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch rowPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0]
  unfold scratch rowPts
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hs : lvOf (roleOf (.dma (((cfgs 0).win w).sem s))) ≤ 0 := by fin_cases w <;> fin_cases s <;> decide
    rcases t with ⟨_ | _, ht⟩
    · exact mayWait c _ (dues c) 0 hs (dues_level c)
    · exact mayWait c _ [] 0 hs (fun p hp => absurd hp List.not_mem_nil)

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with zero counters, for any float values, every weakly fair run of @main on the four devices ends,
    each device's arrays hold the computed contents, and every semaphore is back at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is what it was; -/
theorem finalA_x (c : Dev nD) : finalA m ρ c (0 : Fin 2) = m ((c : Thread nD τ).loc main_arg0) :=
  (dats (F := F) m ρ 0 c).arrAt_in (0 : Fin 2) rfl _

end Cert.Exchange

end
-- ==== Proof.ScanMath.lean ====
/-
What the kernel's pure values are over the extended reals: the tree of halvings multiplies a block's column, the chain
of rotated multiplications gives the running products down a column, and the last step multiplies in the totals of the
devices before.
-/
module

public import proofs.«01_k».proof.Proof.Protocol
public import Idealize.ShloMosaic.Lib.KernelVsHost
public import Idealize.ShloMosaic.Lib.IdealHost
public import Idealize.ShloMosaic.Lib.WordCmp
public import Mathlib.Algebra.BigOperators.Intervals

@[expose] public section

noncomputable section

namespace Cert.Exchange

open Cert.KernelIdeal Cert.KernelIdeal.Gen
open Idealize.ShloMosaic
open Idealize.ShloMosaic.ValueIdx Idealize.ShloMosaic.WordCmp

/-- Column `l` of an array, as a sequence going on with ones past the last row. -/
def col {n : ℕ} (x : (⟨2, ![n, 1024]⟩ : Shape).Idx → EReal) (l : Fin 1024) (r : ℕ) : EReal :=
  if h : r < n then x (ix2 ⟨r, h⟩ l) else 1

theorem col_of_lt {n : ℕ} (x : (⟨2, ![n, 1024]⟩ : Shape).Idx → EReal) (l : Fin 1024) {r : ℕ} (h : r < n) :
    col x l r = x (ix2 ⟨r, h⟩ l) := dif_pos h

/-! ## The product of a column -/

/-- Multiplying the lower half of the rows into the upper half keeps the product of each column. -/
theorem halve_prod {n N : ℕ} (hN : N = n + n) (y : FVec Ideal ⟨2, ![N, 1024]⟩ .f32)
    (h0 : (⟨2, ![N, 1024]⟩ : Shape).Slices ![0, 0] ⟨2, ![n, 1024]⟩)
    (h1 : (⟨2, ![N, 1024]⟩ : Shape).Slices ![n, 0] ⟨2, ![n, 1024]⟩) (l : Fin 1024) :
    ∏ r ∈ Finset.range n, col (mulf (F := Ideal) (φ := .f32) (extractStridedSlice ⟨2, ![n, 1024]⟩ ![0, 0] y h0)
        (extractStridedSlice ⟨2, ![n, 1024]⟩ ![n, 0] y h1)) l r
      = ∏ r ∈ Finset.range N, col y l r := by
  subst hN
  rw [Finset.prod_range_add, ← Finset.prod_mul_distrib]
  refine Finset.prod_congr rfl fun r hr => ?_
  have hr' : r < n := Finset.mem_range.mp hr
  rw [col_of_lt _ l hr', col_of_lt y l (show r < n + n by omega), col_of_lt y l (show n + r < n + n by omega)]
  refine congrArg₂ (fun a b : EReal => a * b) ?_ ?_
  · exact slice2_axis0_apply 0 y h0 ⟨r, hr'⟩ l ⟨r, by omega⟩ (by simp)
  · exact slice2_axis0_apply n y h1 ⟨r, hr'⟩ l ⟨n + r, by omega⟩ rfl

/-- The row of column products. -/
theorem colProd_apply (x : FVec Ideal S2048x1024 .f32) (l : Fin 1024) :
    colProd x (ix2 (0 : Fin 1) l) = ∏ r ∈ Finset.range 2048, col x l r := by
  have e : colProd x = k0_pay1 x := by unfold colProd k0_pay2; exact shapeCast_self _ _
  rw [e]
  have hone : ∀ z : FVec Ideal S1x1024 .f32, z (ix2 (0 : Fin 1) l) = ∏ r ∈ Finset.range 1, col z l r := fun z => by
    rw [Finset.prod_range_one]; exact (col_of_lt z l (show 0 < 1 by decide)).symm
  rw [hone (k0_pay1 x)]
  unfold k0_pay1
  dsimp only
  rw [shapeCast_self]
  refine (halve_prod (n := 1) rfl _ _ _ l).trans ?_
  refine (halve_prod (n := 2) rfl _ _ _ l).trans ?_
  refine (halve_prod (n := 4) rfl _ _ _ l).trans ?_
  refine (halve_prod (n := 8) rfl _ _ _ l).trans ?_
  refine (halve_prod (n := 16) rfl _ _ _ l).trans ?_
  refine (halve_prod (n := 32) rfl _ _ _ l).trans ?_
  refine (halve_prod (n := 64) rfl _ _ _ l).trans ?_
  refine (halve_prod (n := 128) rfl _ _ _ l).trans ?_
  refine (halve_prod (n := 256) rfl _ _ _ l).trans ?_
  refine (halve_prod (n := 512) rfl _ _ _ l).trans ?_
  exact halve_prod (n := 1024) rfl _ _ _ l

/-! ## The running products down a block -/

/-- One step of the scan: every row from the `b`-th on is multiplied by the row `b` places above. -/
def scanStep (b : BitVec 32) (y : FVec Ideal S2048x1024 .f32) : FVec Ideal S2048x1024 .f32 :=
  mulf y (select (broadcastTo S2048x1024 (shapeCast S2048x1 (cmpi .slt rows (broadcast S2048x1 b)) shapeCasts_S2048x1_S2048x1)
    broadcasts_S2048x1_S2048x1024) (broadcast S2048x1024 (Scalar.ofBits (F := Ideal) .f32 0x3F800000#32))
    (dynamicRotate 0 b none y rotates_S2048x1024_d0))

/-- The kernel's scan is eleven such steps. -/
theorem localScan_eq (x : FVec Ideal S2048x1024 .f32) : localScan x
    = scanStep 1024#32 (scanStep 512#32 (scanStep 256#32 (scanStep 128#32 (scanStep 64#32 (scanStep 32#32 (scanStep 16#32
        (scanStep 8#32 (scanStep 4#32 (scanStep 2#32 (scanStep 1#32 (shapeCast S2048x1024 x shapeCasts_S2048x1024_S2048x1024))))))))))) := rfl

/-- One step read at an index. -/
theorem scanStep_apply (s : ℕ) (hs : 0 < s) (hs' : s < 2048) (y : FVec Ideal S2048x1024 .f32) (i : Fin 2048) (l : Fin 1024) :
    scanStep (BitVec.ofNat 32 s) y (ix2 i l)
      = if h : i.val < s then y (ix2 i l) else (y (ix2 i l) * y (ix2 ⟨i.val - s, by omega⟩ l) : EReal) := by
  have hsn : (BitVec.ofNat 32 s).toNat = s := by rw [BitVec.toNat_ofNat]; omega
  have hrot : dynamicRotate 0 (BitVec.ofNat 32 s) none y rotates_S2048x1024_d0 (ix2 i l)
      = y (ix2 ⟨(i.val + 2048 - s) % 2048, by omega⟩ l) := by
    refine dynamicRotate_apply 0 _ y _ _ _ fun b => ?_
    rw [hsn]
    match b with
    | ⟨0, _⟩ =>
      show (i.val + 2048 - s) % 2048 = if (0 : Fin 2) = 0 then (i.val + 2048 - s % 2048) % 2048 else _
      rw [if_pos rfl, Nat.mod_eq_of_lt hs']
    | ⟨1, _⟩ => rfl
  have hmask : broadcastTo S2048x1024 (shapeCast S2048x1 (cmpi .slt rows (broadcast S2048x1 (BitVec.ofNat 32 s)))
      shapeCasts_S2048x1_S2048x1) broadcasts_S2048x1_S2048x1024 (ix2 i l) = BitVec.ofBool (decide (i.val < s)) := by
    rw [shapeCast_self]
    refine (broadcastTo_apply _ _ (ix2 i l) (ix2 i (0 : Fin 1)) fun a => ?_).trans ?_
    · match a with
      | ⟨0, _⟩ => rfl
      | ⟨1, _⟩ => rfl
    · refine Eq.trans ?_ (cmpi_slt_ofNat (w := 32) (a := i.val) (b := s) (by have := i.isLt; omega) (by omega))
      show IntOp.cmpi .slt (iota .tc S2048x1 32 [0] iota_S2048x1_d0_w32 (ix2 i (0 : Fin 1))) (BitVec.ofNat 32 s) = _
      rw [iota_at]
      simp only [List.foldl_cons, List.foldl_nil, Nat.zero_mul, Nat.zero_add]
  have hone : Scalar.ofBits (F := Ideal) .f32 0x3F800000#32 = (1 : EReal) := Ideal.ofBits_one_f32
  show (y (ix2 i l) * Scalar.select _ (Scalar.ofBits (F := Ideal) .f32 0x3F800000#32) _ : EReal) = _
  rw [hmask, hrot, select_ofBool, hone]
  by_cases h : i.val < s
  · rw [dif_pos h, if_pos (decide_eq_true h), mul_one]
  · rw [dif_neg h, if_neg (by simpa using h)]
    have e : (i.val + 2048 - s) % 2048 = i.val - s := by have := i.isLt; omega
    exact congrArg (fun k : Fin 2048 => (y (ix2 i l) * y (ix2 k l) : EReal)) (Fin.ext e)

/-- `y` holds at each row the product of the last `s` rows of `x` up to it. -/
def Windowed (s : ℕ) (x y : FVec Ideal S2048x1024 .f32) : Prop :=
  ∀ (i : Fin 2048) (l : Fin 1024), y (ix2 i l) = ∏ j ∈ Finset.Ico (i.val + 1 - s) (i.val + 1), col x l j

/-- Every array is its own window of one row. -/
theorem windowed_one (x : FVec Ideal S2048x1024 .f32) : Windowed 1 x x := fun i l => by
  rw [Nat.add_sub_cancel, Nat.Ico_succ_singleton, Finset.prod_singleton, col_of_lt x l i.isLt]

/-- A step doubles the window. -/
theorem Windowed.step {s : ℕ} {x y : FVec Ideal S2048x1024 .f32} (h : Windowed s x y) (hs : 0 < s) (hs' : s < 2048) :
    Windowed (s + s) x (scanStep (BitVec.ofNat 32 s) y) := fun i l => by
  rw [scanStep_apply s hs hs' y i l]
  by_cases hi : i.val < s
  · rw [dif_pos hi, h i l, show i.val + 1 - s = 0 by omega, show i.val + 1 - (s + s) = 0 by omega]
  · rw [dif_neg hi, h i l, h ⟨i.val - s, by omega⟩ l, mul_comm]
    show (∏ j ∈ Finset.Ico (i.val - s + 1 - s) (i.val - s + 1), _) * _ = _
    rw [show i.val - s + 1 - s = i.val + 1 - (s + s) by omega, show i.val - s + 1 = i.val + 1 - s by omega]
    exact Finset.prod_Ico_consecutive _ (by omega) (by omega)

/-- The scan gives at each row the product of the rows up to it. -/
theorem localScan_apply (x : FVec Ideal S2048x1024 .f32) (i : Fin 2048) (l : Fin 1024) :
    localScan x (ix2 i l) = ∏ j ∈ Finset.range (i.val + 1), col x l j := by
  have h : Windowed 2048 x (localScan x) := by
    rw [localScan_eq, shapeCast_self]
    have h := windowed_one x
    have h := h.step (by decide) (by decide)
    have h := h.step (by decide) (by decide)
    have h := h.step (by decide) (by decide)
    have h := h.step (by decide) (by decide)
    have h := h.step (by decide) (by decide)
    have h := h.step (by decide) (by decide)
    have h := h.step (by decide) (by decide)
    have h := h.step (by decide) (by decide)
    have h := h.step (by decide) (by decide)
    have h := h.step (by decide) (by decide)
    exact h.step (by decide) (by decide)
  rw [h i l, show i.val + 1 - 2048 = 0 by omega, Finset.range_eq_Ico]

/-! ## The totals of the devices before -/

/-- The slot's row where the slot belongs to a device before, a one elsewhere. -/
theorem pick_apply (c : Dev nD) (k : Fin 4) (s : Vec Ideal S1x1x1024 .f32) (l : Fin 1024) :
    Scalar.select (Scalar.cmpi .sgt (word c) (BitVec.ofNat 32 k.val)) (shapeCast S1x1024 s shapeCasts_S1x1x1024_S1x1024)
        (broadcast S1x1024 (Scalar.ofBits (F := Ideal) .f32 0x3F800000#32)) (ix2 (0 : Fin 1) l)
      = if k.val < c.val then s (ix3 (0 : Fin 1) (0 : Fin 1) l) else (1 : EReal) := by
  by_cases h : k.val < c.val
  · rw [is_before c k h, if_pos h]
    exact shapeCast_1ab_ab_apply s _ 0 l
  · rw [not_before c k h, if_neg h]
    exact Ideal.ofBits_one_f32

/-- The scaled scan at an index. -/
theorem scaled_apply (c : Dev nD) (x : FVec Ideal S2048x1024 .f32) (s : Fin 4 → Vec Ideal S1x1x1024 .f32) (i : Fin 2048)
    (l : Fin 1024) : scaled c x s (ix2 i l)
      = (x (ix2 i l) * ∏ k : Fin 4, if k.val < c.val then s k (ix3 (0 : Fin 1) (0 : Fin 1) l) else (1 : EReal) : EReal) := by
  unfold scaled k0_pay10 k0_pay9
  dsimp only
  rw [shapeCast_self]
  refine congrArg₂ (fun a b : EReal => a * b) rfl ?_
  refine (broadcastTo_1b_ab_apply _ _ i l).trans ?_
  rw [Fin.prod_univ_four, ← one_mul (if (0 : Fin 4).val < c.val then _ else _)]
  refine congrArg₂ (fun a b : EReal => a * b) (congrArg₂ (fun a b : EReal => a * b) (congrArg₂ (fun a b : EReal => a * b)
    (congrArg₂ (fun a b : EReal => a * b) ?_ ?_) ?_) ?_) ?_
  · exact Ideal.ofBits_one_f32
  · exact pick_apply c 0 (s 0) l
  · exact pick_apply c 1 (s 1) l
  · exact pick_apply c 2 (s 2) l
  · exact pick_apply c 3 (s 3) l

/-! ## A device's rows within the whole array -/

/-- The products over the rows of the devices before `c`. -/
theorem prod_before (c : Dev nD) (f : ℕ → EReal) :
    ∏ k : Fin 4, (if k.val < c.val then ∏ r ∈ Finset.range 2048, f (k.val * 2048 + r) else 1)
      = ∏ r ∈ Finset.range (c.val * 2048), f r := by
  have hind : ∀ n : ℕ, ∏ r ∈ Finset.range (n * 2048), f r
      = ∏ k ∈ Finset.range n, ∏ r ∈ Finset.range 2048, f (k * 2048 + r) := fun n => by
    induction n with
    | zero => rw [Nat.zero_mul]; rfl
    | succ n ih => rw [Nat.succ_mul, Finset.prod_range_add, ih, Finset.prod_range_succ _ n]
  rw [hind, Fin.prod_univ_four]
  generalize hg : (fun k : ℕ => ∏ r ∈ Finset.range 2048, f (k * 2048 + r)) = g
  have hg' : ∀ k : ℕ, ∏ r ∈ Finset.range 2048, f (k * 2048 + r) = g k := fun k => congrFun hg k
  simp only [hg']
  fin_cases c <;> simp [Finset.prod_range_succ]

end Cert.Exchange

end
-- ==== Proof.RefLoop.lean ====
/-
What the reference's loop computes over the extended reals: after `t` trips the accumulator holds the product of the
first `t` rows, and the rows written so far hold the running products.
-/
module

public import proofs.«01_k».proof.Proof.Gen.ReferenceIdeal.Run
public import Idealize.ShloMosaic.Lib.ValueLayout
public import Idealize.ShloMosaic.Lib.IdealHost
public import Idealize.ShloMosaic.Lib.WordCmp
public import Mathlib.Algebra.BigOperators.Intervals

@[expose] public section

noncomputable section

namespace Cert.RunningProduct

open Cert.ReferenceIdeal Cert.ReferenceIdeal.Gen Cert.ReferenceIdeal.Value
open Idealize.ShloMosaic Idealize.ShloMosaic.TcCoe Idealize.ShloMosaic.StableHlo
open Idealize.SL.Sem
open Idealize.ShloMosaic.ValueIdx Idealize.ShloMosaic.WordCmp

/-- Column `l` of the argument, as a sequence going on with ones past the last row. -/
def column (X : (⟨2, ![8192, 1024]⟩ : Shape).Idx → EReal) (l : Fin 1024) (r : ℕ) : EReal :=
  if h : r < 8192 then X (ix2 ⟨r, h⟩ l) else 1

/-- The running products: row `i` is the product of the rows up to it. -/
def running (X : (⟨2, ![8192, 1024]⟩ : Shape).Idx → EReal) : (⟨2, ![8192, 1024]⟩ : Shape).Idx → EReal :=
  fun j => ∏ r ∈ Finset.range ((j 0).val + 1), column X (j 1) r

/-! ## One row read, one row written -/

/-- The starting row a trip reads and writes at, off its counter. -/
abbrev startAt (ctr : (⟨S_, .i32⟩ : BufTy).Contents (Elt Ideal)) : Fin 2 → ℤ :=
  fun k => (((![ctr, constantI S_ 32 0#32] : Fin 2 → (⟨S_, .i32⟩ : BufTy).Contents (Elt Ideal))) k (Shape.Idx.first h_S_)).toInt

theorem startAt_eq {t : ℕ} (ht : t < 8192) (a : Fin 2) :
    startAt (fun _ => BitVec.ofNat 32 t) a = ((![t, 0] : Fin 2 → ℕ) a : ℤ) := by
  match a with
  | ⟨0, _⟩ => exact toInt_ofNat_of_lt (w := 32) (by omega)
  | ⟨1, _⟩ => rfl

theorem slices_row {t : ℕ} (ht : t < 8192) : S8192x1024.Slices ![t, 0] S1x1024 :=
  ⟨rfl, fun a => match a with
    | ⟨0, _⟩ => show t + 1 ≤ 8192 by omega
    | ⟨1, _⟩ => show 0 + 1024 ≤ 1024 by omega⟩

/-- The row read at trip `t` is row `t`. -/
theorem row_read (X : FVec Ideal S8192x1024 .f32) {t : ℕ} (ht : t < 8192) (l : Fin 1024) :
    Host.dynamicSlice S1x1024 X (startAt fun _ => BitVec.ofNat 32 t) sliceFits_S8192x1024_S1x1024 (ix2 (0 : Fin 1) l)
      = column X l t := by
  rw [dynamicSlice_eq_extract S1x1024 X _ _ ![t, 0] (slices_row ht) (startAt_eq ht)]
  refine (slice2_axis0_apply t X (slices_row ht) 0 l ⟨t, ht⟩ rfl).trans ?_
  unfold column; rw [dif_pos ht]

/-- Writing a row at trip `t` changes row `t` alone. -/
theorem row_write (Y : FVec Ideal S8192x1024 .f32) (u : FVec Ideal S1x1024 .f32) {t : ℕ} (ht : t < 8192) (i : Fin 8192)
    (l : Fin 1024) :
    Host.dynamicUpdateSlice Y u (startAt fun _ => BitVec.ofNat 32 t) updateFits_S8192x1024_S1x1024 (ix2 i l)
      = if i.val = t then u (ix2 (0 : Fin 1) l) else Y (ix2 i l) := by
  rw [dynamicUpdateSlice_eq_update Y u _ _ ![t, 0] (slices_row ht) (startAt_eq ht)]
  unfold updateSlice
  by_cases h : i.val = t
  · rw [if_pos h, dif_pos]
    · refine congrArg u (funext fun a => Fin.ext ?_)
      match a with
      | ⟨0, _⟩ => show i.val - t = 0; omega
      | ⟨1, _⟩ => rfl
    · intro a
      match a with
      | ⟨0, _⟩ => show t ≤ i.val ∧ i.val < t + 1; omega
      | ⟨1, _⟩ => exact ⟨Nat.zero_le _, show l.val < 0 + 1024 by omega⟩
  · rw [if_neg h, dif_neg]
    intro hin
    have h0 : t ≤ i.val ∧ i.val < t + 1 := hin 0
    omega

/-! ## The loop -/

/-- What the carried buffers hold after `t` trips. -/
structure After (X : FVec Ideal S8192x1024 .f32) (t : ℕ) (V : Valuation τ sig (Elt Ideal)) : Prop where
  arg : V (Proc.devRef .tc main_v2_0) = X
  ctr : V (Proc.devRef .tc main_v2_1) = fun _ => BitVec.ofNat 32 t
  acc : ∀ l : Fin 1024, (V (Proc.devRef .tc main_v2_2) : FVec Ideal S1024 .f32) (ix1 l) = ∏ r ∈ Finset.range t, column X l r
  res : ∀ (i : Fin 8192) (l : Fin 1024), i.val < t →
    (V (Proc.devRef .tc main_v2_3) : FVec Ideal S8192x1024 .f32) (ix2 i l) = ∏ r ∈ Finset.range (i.val + 1), column X l r

/-- The accumulator after one more trip. -/
theorem acc_step {X : FVec Ideal S8192x1024 .f32} {t : ℕ} {V : Valuation τ sig (Elt Ideal)} (h : After X t V) (ht : t < 8192)
    (l : Fin 1024) : (res_main_while0b_v4 V : FVec Ideal S1024 .f32) (ix1 l) = ∏ r ∈ Finset.range (t + 1), column X l r := by
  rw [Finset.prod_range_succ]
  unfold res_main_while0b_v4
  rw [h.ctr, h.arg]
  refine congrArg₂ (fun a b : EReal => a * b) (h.acc l) ?_
  exact (shapeCast_1a_a_apply _ _ l).trans (row_read X ht l)

/-- One trip more. -/
theorem After.step {X : FVec Ideal S8192x1024 .f32} {t : ℕ} {V : Valuation τ sig (Elt Ideal)} (h : After X t V) (ht : t < 8192) :
    After X (t + 1) (STEP V) where
  arg := (STEP_main_v2_0 V).trans h.arg
  ctr := by
    rw [STEP_main_v2_1]
    unfold step_main_v2_1
    rw [h.ctr]
    exact funext fun _ => (BitVec.ofNat_add t 1).symm
  acc l := by
    rw [STEP_main_v2_2]
    exact acc_step h ht l
  res i l hi := by
    rw [STEP_main_v2_3]
    unfold step_main_v2_3
    rw [h.ctr]
    refine (row_write _ _ ht i l).trans ?_
    by_cases hit : i.val = t
    · rw [if_pos hit, hit, ← acc_step h ht l]
      refine broadcastInDim_apply ![1] _ _ (ix2 (0 : Fin 1) l) (ix1 l) fun a => ?_
      match a with
      | ⟨0, _⟩ => rfl
    · rw [if_neg hit]
      exact h.res i l (by omega)

variable (m : (ℓ : Loc nD τ sig) → Buf (Elt Ideal) ℓ) (ρ : Dev nD → PrngReg)

/-- Before the first trip. -/
theorem after_zero (c : Dev nD) : After (m ((c.tc : Thread nD τ).loc main_arg0)) 0 (entryContents preI m c) where
  arg := by
    simp only [entryContents, afterL_cons, afterL_nil]
    after_reads_simp
    rfl
  ctr := ctr_entry m c
  acc l := by
    have e : entryContents preI m c (Proc.devRef .tc main_v2_2)
        = (broadcastInDim S1024 ![] bcast_S_S1024 (constant (F := Ideal) S_ .f32 0x3F800000#32) : FVec Ideal S1024 .f32) := by
      simp only [entryContents, afterL_cons, afterL_nil]
      after_reads_simp
      rfl
    rw [e, Finset.range_zero, Finset.prod_empty]
    exact Ideal.ofBits_one_f32
  res i l hi := absurd hi (Nat.not_lt_zero _)

/-- After `t` trips. -/
theorem after_trips (c : Dev nD) : ∀ t ≤ 8192, After (m ((c.tc : Thread nD τ).loc main_arg0)) t (STEP^[t] (entryContents preI m c))
  | 0, _ => after_zero m c
  | t + 1, h => by
    rw [Function.iterate_succ_apply']
    exact (after_trips c t (by omega)).step (by omega)

/-- The reference leaves the running products of its argument, and its argument as it was. -/
theorem reference_run : θ_run (defs (F := Ideal)) (onTc (τ := τ) (main (F := Ideal))) ⟨m, fun _ => 0, ρ⟩ fun r => ∀ c : Dev nD,
    r.2.mem ((c.tc : Thread nD τ).loc main_v2_3) = running (m ((c.tc : Thread nD τ).loc main_arg0))
      ∧ r.2.mem ((c.tc : Thread nD τ).loc main_arg0) = m ((c.tc : Thread nD τ).loc main_arg0) :=
  (θ_run defs _ _).mono (fun r h c => ⟨(h c).1.trans (funext fun j => by
    have e : j = ix2 (j 0) (j 1) := funext fun a => match a with
      | ⟨0, _⟩ => rfl
      | ⟨1, _⟩ => rfl
    have hj : (j 0).val < 8192 := (j 0).isLt
    rw [e]
    exact (after_trips m c 8192 (Nat.le_refl _)).res (j 0) (j 1) hj), (h c).2⟩) (run m ρ)

end Cert.RunningProduct

end
-- ==== Proof.Value.lean ====
/-
What each device's result array holds after the run, and that over the extended reals it is the device's block of the
running products of the whole array.
-/
module

public import proofs.«01_k».proof.Proof.Launch
public import proofs.«01_k».proof.Proof.ScanMath
public import proofs.«01_k».proof.Proof.RefLoop
public import Idealize.ShloMosaic.Lib.Layout
public import Idealize.ShloMosaic.Lib.Quiescent
public import proofs.«01_k».proof.Defs
public import proofs.«01_k».proof.Proof.Gen.Kernel

@[expose] public section

noncomputable section

namespace Cert.Exchange

open Cert.KernelIdeal Cert.KernelIdeal.Gen Cert.RunningProduct
open Idealize.ShloMosaic
open Idealize.ShloMosaic.TcCoe
open Idealize.SL.Sem
open Idealize.ShloMosaic.ValueIdx

section Arrays

variable {F : FTy → Type} [FloatOps F]
variable (m : (ℓ : Loc nD τ sig) → Buf (Elt F) ℓ) (ρ : Dev nD → PrngReg)

/-- The block the kernel is given is the device's whole argument array. -/
theorem blockOf_eq (c : Dev nD) : blockOf m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _

/-- After the run the device's result array holds what the body computed. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) _).symm.trans ?_
  unfold finalA
  refine ((dats m ρ 0 c).read_blk_arrAt (1 : Fin 2) (outAt m ρ c) (fun t _ => ?_) (0 : Fin 1) (flush0_1 (0 : Fin 1))).trans ?_
  · have ht : t = (0 : Fin 1) := Subsingleton.elim (α := Fin 1) t 0
    subst ht
    exact (Memref.read_access_unit_zero (Elt F) main_v1 hz (fun a => by fin_cases a <;> decide) _).symm
  · exact Memref.read_access_unit_zero (Elt F) main_v1 hz (fun a => by fin_cases a <;> decide) _

end Arrays

variable (m : (ℓ : Loc nD τ sig) → Buf (Elt Ideal) ℓ) (ρ : Dev nD → PrngReg)

/-- Column `l` of block `c` is column `l` of the whole array, `2048 c` rows further down. -/
theorem col_block (X : (⟨2, ![8192, 1024]⟩ : Shape).Idx → EReal) (c : Dev nD) (l : Fin 1024) {r : ℕ} (hr : r < 2048) :
    col (Layout.block ⟨2, ![2048, 1024]⟩ ⟨2, ![8192, 1024]⟩ 0 4 c X) l r = column X l (c.val * 2048 + r) := by
  have hc : c.val < 4 := c.isLt
  rw [col_of_lt _ l hr]
  unfold column
  rw [dif_pos (show c.val * 2048 + r < 8192 by omega), Layout.block_apply]
  refine congrArg X (funext fun a => Fin.ext ?_)
  match a with
  | ⟨0, _⟩ => exact (Layout.idx_rows_val _ c _).1
  | ⟨1, _⟩ => exact (Layout.idx_rows_val _ c _).2

/-- When every device holds its block of `X`, each element it computes is a product over the rows of `X` up to its own. -/
theorem outAt_apply (X : (⟨2, ![8192, 1024]⟩ : Shape).Idx → EReal)
    (hX : ∀ c : Dev nD, m ((c.tc : Thread nD τ).loc main_arg0) = Layout.block ⟨2, ![2048, 1024]⟩ ⟨2, ![8192, 1024]⟩ 0 4 c X)
    (c : Dev nD) (i : Fin 2048) (l : Fin 1024) :
    outAt m ρ c (ix2 i l) = ∏ r ∈ Finset.range (c.val * 2048 + (i.val + 1)), column X l r := by
  have hi : i.val < 2048 := i.isLt
  have hb : ∀ d : Dev nD, blockOf m ρ d = Layout.block ⟨2, ![2048, 1024]⟩ ⟨2, ![8192, 1024]⟩ 0 4 d X :=
    fun d => (blockOf_eq m ρ d).trans (hX d)
  have htot : ∀ d : Dev nD, total m ρ d (ix2 (0 : Fin 1) l) = ∏ r ∈ Finset.range 2048, column X l (d.val * 2048 + r) := fun d => by
    unfold total
    rw [hb d]
    refine (colProd_apply _ l).trans (Finset.prod_congr rfl fun r hr => ?_)
    exact col_block X d l (Finset.mem_range.mp hr)
  unfold outAt
  refine (scaled_apply c _ _ i l).trans ?_
  rw [Finset.prod_range_add, mul_comm]
  refine congrArg₂ (fun a b : EReal => a * b) ?_ ?_
  · rw [← prod_before c (column X l)]
    refine Finset.prod_congr rfl fun k _ => ?_
    by_cases hk : k.val < c.val
    · rw [if_pos hk, if_pos hk]
      exact htot k
    · rw [if_neg hk, if_neg hk]
  · rw [hb c]
    refine (localScan_apply _ i l).trans (Finset.prod_congr rfl fun r hr => ?_)
    exact col_block X c l (by have := Finset.mem_range.mp hr; omega)

/-- When every device holds its block of `X`, what it computes is its block of the running products of `X`. -/
theorem outAt_eq (X : (⟨2, ![8192, 1024]⟩ : Shape).Idx → EReal)
    (hX : ∀ c : Dev nD, m ((c.tc : Thread nD τ).loc main_arg0) = Layout.block ⟨2, ![2048, 1024]⟩ ⟨2, ![8192, 1024]⟩ 0 4 c X)
    (c : Dev nD) : outAt m ρ c = Layout.block ⟨2, ![2048, 1024]⟩ ⟨2, ![8192, 1024]⟩ 0 4 c (running X) := by
  funext j
  have e : j = ix2 (j 0) (j 1) := funext fun a => match a with
    | ⟨0, _⟩ => rfl
    | ⟨1, _⟩ => rfl
  refine (congrArg (outAt m ρ c) e).trans ((outAt_apply m ρ X hX c (j 0) (j 1)).trans ?_)
  exact rfl

/-! ## The claims about the kernel -/

/-- The kernel over the extended reals ends, leaves its argument and brings every semaphore back to zero. -/
theorem frame_ideal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- The kernel's two printed body tables have one text: a label at a time they are the same body. -/
theorem bodies_same : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl

/-- So have the tables with the pipeline's regions. -/
theorem defs_same : @Cert.Kernel.defs Bits _ _ = @Cert.KernelIdeal.defs Bits _ _ :=
  congrArg (Pipeline.defs (Cert.KernelIdeal.pcfgs (F := Bits))) bodies_same

/-- The kernel on float words ends, leaves its argument and brings every semaphore back to zero: it is the same text. -/
theorem frame_kernel : Cert.quiescent_Kernel := fun m ρ _ => by
  have h : θ_run (Cert.KernelIdeal.defs (F := Bits)) (onTc (τ := τ) (main (F := Bits))) (s₀ (F := Bits) m ρ)
      (fun r => (∀ c : Dev nD, r.2.mem ((c.tc : Thread nD τ).loc main_arg0) = m ((c.tc : Thread nD τ).loc main_arg0))
        ∧ r.2.sem = fun _ => 0) :=
    (θ_run Cert.KernelIdeal.defs _ _).mono (fun _ h => ⟨fun c => (h.1 c (0 : Fin 2)).trans (finalA_x (F := Bits) m ρ c), h.2⟩)
      (run_main (F := Bits) m ρ)
  rw [← defs_same] at h
  exact h

/-- The reference ends, leaves its argument, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (reference_run m ρ)

/-- Over the extended reals each device's result is its block of the reference's. -/
theorem value : Cert.algebraic_KernelIdeal_ReferenceIdeal := fun m ρ m' ρ' _ hX =>
  ⟨running (m' (((0 : Dev Cert.ReferenceIdeal.nD).tc : Thread _ Cert.ReferenceIdeal.τ).loc Cert.ReferenceIdeal.main_arg0)),
    (θ_run Cert.KernelIdeal.defs _ _).mono (fun _ h c =>
      ⟨(h.1 c (1 : Fin 2)).trans ((finalA_o m ρ c).trans (outAt_eq m ρ _ hX c)), (h.1 c (0 : Fin 2)).trans (finalA_x m ρ c)⟩)
      (run_main (F := Ideal) m ρ),
    (θ_run Cert.ReferenceIdeal.defs _ _).mono (fun _ h => h 0) (reference_run m' ρ')⟩

end Cert.Exchange

end
-- ==== Proof.lean ====
/-
The certificate: the three frames, the idealization and the value claim, from the modules under Proof/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

namespace Cert.Proof

/-- All five claims. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.value⟩

end Cert.Proof
